-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelPrepIdeal_finite_prep [hPre_finite_prep : Cert.Pre_finite_prep.Facts] (m : (ℓ : Loc Cert.KernelPrepIdeal.nD Cert.KernelPrepIdeal.τ Cert.KernelPrepIdeal.sig) → Buf (Elt Ideal) ℓ) : Prop :=
  ∀ c : Dev Cert.KernelPrepIdeal.nD,
    (Cert.Pre_finite_prep.fn (F := Ideal) (m ((c.tc : Thread Cert.KernelPrepIdeal.nD Cert.KernelPrepIdeal.τ).loc Cert.KernelPrepIdeal.main_arg0)) (m ((c.tc : Thread Cert.KernelPrepIdeal.nD Cert.KernelPrepIdeal.τ).loc Cert.KernelPrepIdeal.main_arg1)) (m ((c.tc : Thread Cert.KernelPrepIdeal.nD Cert.KernelPrepIdeal.τ).loc Cert.KernelPrepIdeal.main_arg2)) (m ((c.tc : Thread Cert.KernelPrepIdeal.nD Cert.KernelPrepIdeal.τ).loc Cert.KernelPrepIdeal.main_arg3)) (m ((c.tc : Thread Cert.KernelPrepIdeal.nD Cert.KernelPrepIdeal.τ).loc Cert.KernelPrepIdeal.main_arg4)) (m ((c.tc : Thread Cert.KernelPrepIdeal.nD Cert.KernelPrepIdeal.τ).loc Cert.KernelPrepIdeal.main_arg5))) = (fun _ => 1#1)

def Pre_ReferencePrepIdeal (m : (ℓ : Loc Cert.ReferencePrepIdeal.nD Cert.ReferencePrepIdeal.τ Cert.ReferencePrepIdeal.sig) → Buf (Elt Ideal) ℓ) : Prop :=
  True

def Pre_ReferencePrepIdeal_finite_prep [hPre_finite_prep : Cert.Pre_finite_prep.Facts] (m : (ℓ : Loc Cert.ReferencePrepIdeal.nD Cert.ReferencePrepIdeal.τ Cert.ReferencePrepIdeal.sig) → Buf (Elt Ideal) ℓ) : Prop :=
  ∀ c : Dev Cert.ReferencePrepIdeal.nD,
    (Cert.Pre_finite_prep.fn (F := Ideal) (m ((c.tc : Thread Cert.ReferencePrepIdeal.nD Cert.ReferencePrepIdeal.τ).loc Cert.ReferencePrepIdeal.main_arg0)) (m ((c.tc : Thread Cert.ReferencePrepIdeal.nD Cert.ReferencePrepIdeal.τ).loc Cert.ReferencePrepIdeal.main_arg1)) (m ((c.tc : Thread Cert.ReferencePrepIdeal.nD Cert.ReferencePrepIdeal.τ).loc Cert.ReferencePrepIdeal.main_arg2)) (m ((c.tc : Thread Cert.ReferencePrepIdeal.nD Cert.ReferencePrepIdeal.τ).loc Cert.ReferencePrepIdeal.main_arg3)) (m ((c.tc : Thread Cert.ReferencePrepIdeal.nD Cert.ReferencePrepIdeal.τ).loc Cert.ReferencePrepIdeal.main_arg4)) (m ((c.tc : Thread Cert.ReferencePrepIdeal.nD Cert.ReferencePrepIdeal.τ).loc Cert.ReferencePrepIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2)
      ∧ r.2.mem ((c.tc : Thread Cert.KernelPrep.nD Cert.KernelPrep.τ).loc Cert.KernelPrep.main_arg3) = m ((c.tc : Thread Cert.KernelPrep.nD Cert.KernelPrep.τ).loc Cert.KernelPrep.main_arg3)
      ∧ r.2.mem ((c.tc : Thread Cert.KernelPrep.nD Cert.KernelPrep.τ).loc Cert.KernelPrep.main_arg4) = m ((c.tc : Thread Cert.KernelPrep.nD Cert.KernelPrep.τ).loc Cert.KernelPrep.main_arg4)
      ∧ r.2.mem ((c.tc : Thread Cert.KernelPrep.nD Cert.KernelPrep.τ).loc Cert.KernelPrep.main_arg5) = m ((c.tc : Thread Cert.KernelPrep.nD Cert.KernelPrep.τ).loc Cert.KernelPrep.main_arg5))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5))
      ∧ r.2.sem = fun _ => 0)

def quiescent_KernelPrepIdeal_pre_finite_prep [hKernelPrepIdeal : Cert.KernelPrepIdeal.Facts] [hPre_finite_prep : Cert.Pre_finite_prep.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal_finite_prep m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
      ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
      ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
      ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5))
      ∧ r.2.sem = fun _ => 0)

def quiescent_ReferencePrepIdeal_pre_finite_prep [hReferencePrepIdeal : Cert.ReferencePrepIdeal.Facts] [hPre_finite_prep : Cert.Pre_finite_prep.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal_finite_prep m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2)
      ∧ r.2.mem ((c.tc : Thread Cert.ReferencePrepIdeal.nD Cert.ReferencePrepIdeal.τ).loc Cert.ReferencePrepIdeal.main_arg3) = m ((c.tc : Thread Cert.ReferencePrepIdeal.nD Cert.ReferencePrepIdeal.τ).loc Cert.ReferencePrepIdeal.main_arg3)
      ∧ r.2.mem ((c.tc : Thread Cert.ReferencePrepIdeal.nD Cert.ReferencePrepIdeal.τ).loc Cert.ReferencePrepIdeal.main_arg4) = m ((c.tc : Thread Cert.ReferencePrepIdeal.nD Cert.ReferencePrepIdeal.τ).loc Cert.ReferencePrepIdeal.main_arg4)
      ∧ r.2.mem ((c.tc : Thread Cert.ReferencePrepIdeal.nD Cert.ReferencePrepIdeal.τ).loc Cert.ReferencePrepIdeal.main_arg5) = m ((c.tc : Thread Cert.ReferencePrepIdeal.nD Cert.ReferencePrepIdeal.τ).loc Cert.ReferencePrepIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v6) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v39) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v15)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v15) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v46) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v7)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v17) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelPrep_KernelPrepIdeal : Prop :=
  True

def algebraic_KernelPrepIdeal_ReferencePrepIdeal_pre_finite_prep [hKernelPrepIdeal : Cert.KernelPrepIdeal.Facts] [hReferencePrepIdeal : Cert.ReferencePrepIdeal.Facts] [hPre_finite_prep : Cert.Pre_finite_prep.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal_finite_prep m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)
      ∧ m' ((c.tc : Thread Cert.ReferencePrepIdeal.nD Cert.ReferencePrepIdeal.τ).loc Cert.ReferencePrepIdeal.main_arg3) = m ((c.tc : Thread Cert.KernelPrepIdeal.nD Cert.KernelPrepIdeal.τ).loc Cert.KernelPrepIdeal.main_arg3)
      ∧ m' ((c.tc : Thread Cert.ReferencePrepIdeal.nD Cert.ReferencePrepIdeal.τ).loc Cert.ReferencePrepIdeal.main_arg4) = m ((c.tc : Thread Cert.KernelPrepIdeal.nD Cert.KernelPrepIdeal.τ).loc Cert.KernelPrepIdeal.main_arg4)
      ∧ m' ((c.tc : Thread Cert.ReferencePrepIdeal.nD Cert.ReferencePrepIdeal.τ).loc Cert.ReferencePrepIdeal.main_arg5) = m ((c.tc : Thread Cert.KernelPrepIdeal.nD Cert.KernelPrepIdeal.τ).loc Cert.KernelPrepIdeal.main_arg5)) →
    ∃ (v0 : (c : Dev Cert.KernelPrepIdeal.nD) → Buf (Elt Ideal) ((c.tc : Thread Cert.KernelPrepIdeal.nD Cert.KernelPrepIdeal.τ).loc Cert.KernelPrepIdeal.main_v21_1)) (v1 : (c : Dev Cert.KernelPrepIdeal.nD) → Buf (Elt Ideal) ((c.tc : Thread Cert.KernelPrepIdeal.nD Cert.KernelPrepIdeal.τ).loc Cert.KernelPrepIdeal.main_v21_2)) (v2 : (c : Dev Cert.KernelPrepIdeal.nD) → Buf (Elt Ideal) ((c.tc : Thread Cert.KernelPrepIdeal.nD Cert.KernelPrepIdeal.τ).loc Cert.KernelPrepIdeal.main_v21_6)) (v3 : (c : Dev Cert.KernelPrepIdeal.nD) → Buf (Elt Ideal) ((c.tc : Thread Cert.KernelPrepIdeal.nD Cert.KernelPrepIdeal.τ).loc Cert.KernelPrepIdeal.main_v21_4)) (v4 : (c : Dev Cert.KernelPrepIdeal.nD) → Buf (Elt Ideal) ((c.tc : Thread Cert.KernelPrepIdeal.nD Cert.KernelPrepIdeal.τ).loc Cert.KernelPrepIdeal.main_v21_5)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v21_1) = v0 c
          ∧ r.2.mem ((c.tc : Thread Cert.KernelPrepIdeal.nD Cert.KernelPrepIdeal.τ).loc Cert.KernelPrepIdeal.main_v21_2) = v1 c
          ∧ r.2.mem ((c.tc : Thread Cert.KernelPrepIdeal.nD Cert.KernelPrepIdeal.τ).loc Cert.KernelPrepIdeal.main_v21_6) = v2 c
          ∧ r.2.mem ((c.tc : Thread Cert.KernelPrepIdeal.nD Cert.KernelPrepIdeal.τ).loc Cert.KernelPrepIdeal.main_v21_4) = v3 c
          ∧ r.2.mem ((c.tc : Thread Cert.KernelPrepIdeal.nD Cert.KernelPrepIdeal.τ).loc Cert.KernelPrepIdeal.main_v21_5) = v4 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2)
          ∧ r.2.mem ((c.tc : Thread Cert.KernelPrepIdeal.nD Cert.KernelPrepIdeal.τ).loc Cert.KernelPrepIdeal.main_arg3) = m ((c.tc : Thread Cert.KernelPrepIdeal.nD Cert.KernelPrepIdeal.τ).loc Cert.KernelPrepIdeal.main_arg3)
          ∧ r.2.mem ((c.tc : Thread Cert.KernelPrepIdeal.nD Cert.KernelPrepIdeal.τ).loc Cert.KernelPrepIdeal.main_arg4) = m ((c.tc : Thread Cert.KernelPrepIdeal.nD Cert.KernelPrepIdeal.τ).loc Cert.KernelPrepIdeal.main_arg4)
          ∧ r.2.mem ((c.tc : Thread Cert.KernelPrepIdeal.nD Cert.KernelPrepIdeal.τ).loc Cert.KernelPrepIdeal.main_arg5) = m ((c.tc : Thread Cert.KernelPrepIdeal.nD Cert.KernelPrepIdeal.τ).loc Cert.KernelPrepIdeal.main_arg5))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v39) = v0 c
          ∧ r.2.mem ((c.tc : Thread Cert.ReferencePrepIdeal.nD Cert.ReferencePrepIdeal.τ).loc Cert.ReferencePrepIdeal.main_v40) = v1 c
          ∧ r.2.mem ((c.tc : Thread Cert.ReferencePrepIdeal.nD Cert.ReferencePrepIdeal.τ).loc Cert.ReferencePrepIdeal.main_v41) = v2 c
          ∧ r.2.mem ((c.tc : Thread Cert.ReferencePrepIdeal.nD Cert.ReferencePrepIdeal.τ).loc Cert.ReferencePrepIdeal.main_v42) = v3 c
          ∧ r.2.mem ((c.tc : Thread Cert.ReferencePrepIdeal.nD Cert.ReferencePrepIdeal.τ).loc Cert.ReferencePrepIdeal.main_v43) = v4 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2)
          ∧ r.2.mem ((c.tc : Thread Cert.ReferencePrepIdeal.nD Cert.ReferencePrepIdeal.τ).loc Cert.ReferencePrepIdeal.main_arg3) = m' ((c.tc : Thread Cert.ReferencePrepIdeal.nD Cert.ReferencePrepIdeal.τ).loc Cert.ReferencePrepIdeal.main_arg3)
          ∧ r.2.mem ((c.tc : Thread Cert.ReferencePrepIdeal.nD Cert.ReferencePrepIdeal.τ).loc Cert.ReferencePrepIdeal.main_arg4) = m' ((c.tc : Thread Cert.ReferencePrepIdeal.nD Cert.ReferencePrepIdeal.τ).loc Cert.ReferencePrepIdeal.main_arg4)
          ∧ r.2.mem ((c.tc : Thread Cert.ReferencePrepIdeal.nD Cert.ReferencePrepIdeal.τ).loc Cert.ReferencePrepIdeal.main_arg5) = m' ((c.tc : Thread Cert.ReferencePrepIdeal.nD Cert.ReferencePrepIdeal.τ).loc Cert.ReferencePrepIdeal.main_arg5))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelPrep : Cert.KernelPrep.Facts) (hKernelPrepIdeal : Cert.KernelPrepIdeal.Facts) (hReferencePrepIdeal : Cert.ReferencePrepIdeal.Facts) (hPre_finite : Cert.Pre_finite.Facts) (hPre_finite_prep : Cert.Pre_finite_prep.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelPrep (hKernelPrep := hKernelPrep)
    ∧ quiescent_KernelPrepIdeal (hKernelPrepIdeal := hKernelPrepIdeal)
    ∧ quiescent_KernelPrepIdeal_pre_finite_prep (hKernelPrepIdeal := hKernelPrepIdeal) (hPre_finite_prep := hPre_finite_prep)
    ∧ quiescent_ReferencePrepIdeal (hReferencePrepIdeal := hReferencePrepIdeal)
    ∧ quiescent_ReferencePrepIdeal_pre_finite_prep (hReferencePrepIdeal := hReferencePrepIdeal) (hPre_finite_prep := hPre_finite_prep)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelPrep_KernelPrepIdeal
    ∧ algebraic_KernelPrepIdeal_ReferencePrepIdeal_pre_finite_prep (hKernelPrepIdeal := hKernelPrepIdeal) (hReferencePrepIdeal := hReferencePrepIdeal) (hPre_finite_prep := hPre_finite_prep)
-- ==== Pre_finite.lean ====
abbrev S8x2048x1024 : Shape := ⟨3, ![8, 2048, 1024]⟩
abbrev S8x6144 : Shape := ⟨2, ![8, 6144]⟩
abbrev S1024 : Shape := ⟨1, ![1024]⟩
abbrev S1024x8 : Shape := ⟨2, ![1024, 8]⟩
abbrev S8x1024x1792 : Shape := ⟨3, ![8, 1024, 1792]⟩
abbrev S8x1792x1024 : Shape := ⟨3, ![8, 1792, 1024]⟩
abbrev S8x2048 : Shape := ⟨2, ![8, 2048]⟩
abbrev S_ : Shape := ⟨0, ![]⟩

class Facts : Prop where
  slices_S8x6144_S8x2048_0_3072 : S8x6144.Slices ![0, 3072] S8x2048
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_

variable [Facts]

def fn_part1 {F : FTy → Type} [FloatOps F] (main_v14 : IVec S_ 1) (main_v15 : FVec F S1024x8 .f32) (main_v16 : FVec F S1024x8 .f32) : IVec S_ 1 :=
  let main_v17 : IVec S1024x8 1 := cmpf .olt main_v15 main_v16
  let main_c_5 : IVec S_ 1 := constantI S_ 1 1#1
  let main_v18 : IVec S_ 1 := (fun x v => Host.reduce IntOp.andi x v reducesTo_S1024x8_S_d0_1 h_S_) main_v17 main_c_5
  let main_v19 : IVec S_ 1 := andi main_v14 main_v18
  main_v19

def fn {F : FTy → Type} [FloatOps F] (main_arg0 : FVec F S8x2048x1024 .f32) (main_arg1 : FVec F S8x6144 .f32) (main_arg2 : FVec F S1024 .f32) (main_arg3 : FVec F S1024x8 .f32) (main_arg4 : FVec F S8x1024x1792 .f32) (main_arg5 : FVec F S8x1024x1792 .f32) (main_arg6 : FVec F S8x1792x1024 .f32) : IVec S_ 1 :=
  let main_v0 : FVec F S8x2048 .f32 := (extractStridedSlice S8x2048 ![0, 3072] · slices_S8x6144_S8x2048_0_3072) main_arg1
  let main_v1 : FVec F S8x2048x1024 .f32 := Host.absf main_arg0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048 .f32 := Host.absf main_v0
  let main_cst_0 : FVec F S_ .f32 := constant S_ .f32 0x7F800000#32
  let main_v6 : FVec F S8x2048 .f32 := broadcastInDim S8x2048 ![] bcast_S_S8x2048 main_cst_0
  let main_v7 : IVec S8x2048 1 := cmpf .olt main_v5 main_v6
  let main_c_1 : IVec S_ 1 := constantI S_ 1 1#1
  let main_v8 : IVec S_ 1 := (fun x v => Host.reduce IntOp.andi x v reducesTo_S8x2048_S_d0_1 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024x8 .f32 := Host.absf main_arg3
  let main_cst_4 : FVec F S_ .f32 := constant S_ .f32 0x7F800000#32
  let main_v16 : FVec F S1024x8 .f32 := broadcastInDim S1024x8 ![] bcast_S_S1024x8 main_cst_4
  fn_part1 (F := F) main_v14 main_v15 main_v16
-- ==== Pre_finite_prep.lean ====
abbrev S8x2048x3456 : Shape := ⟨3, ![8, 2048, 3456]⟩
abbrev S64 : Shape := ⟨1, ![64]⟩
abbrev S4 : Shape := ⟨1, ![4]⟩
abbrev S8x2048x512 : Shape := ⟨3, ![8, 2048, 512]⟩
abbrev S_ : Shape := ⟨0, ![]⟩

class Facts : Prop where
  slices_S8x2048x3456_S8x2048x512_0_0_1024 : S8x2048x3456.Slices ![0, 0, 1024] S8x2048x512
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  slices_S8x2048x3456_S8x2048x512_0_0_2816 : S8x2048x3456.Slices ![0, 0, 2816] S8x2048x512
  bcast_S_S64 : S_.BroadcastsInDim S64 (![] : Fin 0 → Fin S64.rank)
  reducesTo_S64_S_d0 : S64.ReducesTo [0] S_

variable [Facts]

def fn_part1 {F : FTy → Type} [FloatOps F] (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  main_v20

def fn {F : FTy → Type} [FloatOps F] (main_arg0 : FVec F S8x2048x3456 .f32) (main_arg1 : FVec F S64 .f32) (main_arg2 : FVec F S64 .f32) (main_arg3 : FVec F S64 .f32) (main_arg4 : FVec F S64 .f32) (main_arg5 : FVec F S4 .f32) : IVec S_ 1 :=
  let main_v0 : FVec F S8x2048x512 .f32 := (extractStridedSlice S8x2048x512 ![0, 0, 1024] · slices_S8x2048x3456_S8x2048x512_0_0_1024) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x512 .f32 := (extractStridedSlice S8x2048x512 ![0, 0, 2816] · slices_S8x2048x3456_S8x2048x512_0_0_2816) main_arg0
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v4 main_v9
  let main_v11 : FVec F S64 .f32 := Host.absf main_arg2
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg4
  let main_cst_4 : FVec F S_ .f32 := constant S_ .f32 0x7F800000#32
  fn_part1 (F := F) main_v15 main_v16 main_cst_4
-- ==== Kernel.lean ====
abbrev S8x2048x1024 : Shape := ⟨3, ![8, 2048, 1024]⟩
abbrev S8x6144 : Shape := ⟨2, ![8, 6144]⟩
abbrev S1024 : Shape := ⟨1, ![1024]⟩
abbrev S1024x8 : Shape := ⟨2, ![1024, 8]⟩
abbrev S8x1024x1792 : Shape := ⟨3, ![8, 1024, 1792]⟩
abbrev S8x1792x1024 : Shape := ⟨3, ![8, 1792, 1024]⟩
abbrev S16384x1024 : Shape := ⟨2, ![16384, 1024]⟩
abbrev S8x1x6144 : Shape := ⟨3, ![8, 1, 6144]⟩
abbrev S1x1024 : Shape := ⟨2, ![1, 1024]⟩
abbrev S_ : Shape := ⟨0, ![]⟩
abbrev S1024x128 : Shape := ⟨2, ![1024, 128]⟩
abbrev S512x1024 : Shape := ⟨2, ![512, 1024]⟩
abbrev S1x1x1024 : Shape := ⟨3, ![1, 1, 1024]⟩
abbrev S1x1024x896 : Shape := ⟨3, ![1, 1024, 896]⟩
abbrev S1x896x1024 : Shape := ⟨3, ![1, 896, 1024]⟩
abbrev S512x128 : Shape := ⟨2, ![512, 128]⟩
abbrev S512 : Shape := ⟨1, ![512]⟩
abbrev S512x1 : Shape := ⟨2, ![512, 1]⟩
abbrev S1024x896 : Shape := ⟨2, ![1024, 896]⟩
abbrev S512x896 : Shape := ⟨2, ![512, 896]⟩
abbrev S896x1024 : Shape := ⟨2, ![896, 1024]⟩

abbrev nBuf : Space → Nat
  | .hbm => 17
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x8, .f32⟩
  | .hbm, ⟨4, _⟩ => ⟨S8x1024x1792, .f32⟩
  | .hbm, ⟨5, _⟩ => ⟨S8x1024x1792, .f32⟩
  | .hbm, ⟨6, _⟩ => ⟨S8x1792x1024, .f32⟩
  | .hbm, ⟨7, _⟩ => ⟨S16384x1024, .f32⟩
  | .hbm, ⟨8, _⟩ => ⟨S8x1x6144, .f32⟩
  | .hbm, ⟨9, _⟩ => ⟨S1x1024, .f32⟩
  | .hbm, ⟨10, _⟩ => ⟨S8x1024x1792, .bf16⟩
  | .hbm, ⟨11, _⟩ => ⟨S8x1024x1792, .bf16⟩
  | .hbm, ⟨12, _⟩ => ⟨S8x1792x1024, .bf16⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x128, .f32⟩
  | .local _ .vmem, ⟨10, _⟩ => ⟨S1x1024x896, .bf16⟩
  | .local _ .vmem, ⟨11, _⟩ => ⟨S1x1024x896, .bf16⟩
  | .local _ .vmem, ⟨12, _⟩ => ⟨S1x1024x896, .bf16⟩
  | .local _ .vmem, ⟨13, _⟩ => ⟨S1x1024x896, .bf16⟩
  | .local _ .vmem, ⟨14, _⟩ => ⟨S1x896x1024, .bf16⟩
  | .local _ .vmem, ⟨15, _⟩ => ⟨S1x896x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | .local _ .vmem, ⟨20, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![32, 8, 2], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c1_i32 : BitVec 32 := 1#32
  let v35 : BitVec 1 := Scalar.cmpi .eq arg2 c1_i32
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x896x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S8x6144 : Shape := ⟨2, ![8, 6144]⟩
abbrev S1024 : Shape := ⟨1, ![1024]⟩
abbrev S1024x8 : Shape := ⟨2, ![1024, 8]⟩
abbrev S8x1024x1792 : Shape := ⟨3, ![8, 1024, 1792]⟩
abbrev S8x1792x1024 : Shape := ⟨3, ![8, 1792, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8 : Shape := ⟨3, ![8, 2048, 8]⟩
abbrev S8x2048x2 : Shape := ⟨3, ![8, 2048, 2]⟩
abbrev S8x2048x2x1 : Shape := ⟨4, ![8, 2048, 2, 1]⟩
abbrev S1x1x1x8 : Shape := ⟨4, ![1, 1, 1, 8]⟩
abbrev S8x2048x2x8 : Shape := ⟨4, ![8, 2048, 2, 8]⟩
abbrev S1x1024x1792 : Shape := ⟨3, ![1, 1024, 1792]⟩
abbrev S1024x1792 : Shape := ⟨2, ![1024, 1792]⟩
abbrev S1x1792x1024 : Shape := ⟨3, ![1, 1792, 1024]⟩
abbrev S1792x1024 : Shape := ⟨2, ![1792, 1024]⟩
abbrev S8x2048x1792 : Shape := ⟨3, ![8, 2048, 1792]⟩
abbrev S16384x1024 : Shape := ⟨2, ![16384, 1024]⟩

abbrev nBuf : Space → Nat
  | .hbm => 260
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S1024x8, .f32⟩
  | 4 => ⟨S8x1024x1792, .f32⟩
  | 5 => ⟨S8x1024x1792, .f32⟩
  | 6 => ⟨S8x1792x1024, .f32⟩
  | 7 => ⟨S8x1024, .f32⟩
  | 8 => ⟨S8x1024, .f32⟩
  | 9 => ⟨S8x1024, .f32⟩
  | 10 => ⟨S8x1024, .f32⟩
  | 11 => ⟨S8x1024, .f32⟩
  | 12 => ⟨S8x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x2048x1024, .f32⟩
  | 20 => ⟨S_, .f32⟩
  | 21 => ⟨S8x2048, .f32⟩
  | 22 => ⟨S8x2048x1, .f32⟩
  | 23 => ⟨S_, .f32⟩
  | 24 => ⟨S8x2048x1, .f32⟩
  | 25 => ⟨S8x2048x1, .f32⟩
  | 26 => ⟨S_, .f32⟩
  | 27 => ⟨S8x2048x1, .f32⟩
  | 28 => ⟨S8x2048x1, .f32⟩
  | 29 => ⟨S8x2048x1, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S_, .f32⟩
  | 36 => ⟨S8x1x1024, .f32⟩
  | 37 => ⟨S8x1x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S8x2048x8, .f32⟩
  | 43 => ⟨S8x2048x2, .f32⟩
  | 44 => ⟨S8x2048x2, .i32⟩
  | 45 => ⟨S_, .f32⟩
  | 46 => ⟨S8x2048, .f32⟩
  | 47 => ⟨S_, .f32⟩
  | 48 => ⟨S8x2048, .f32⟩
  | 49 => ⟨S8x2048, .f32⟩
  | 50 => ⟨S8x2048x1, .f32⟩
  | 51 => ⟨S8x2048x2, .f32⟩
  | 52 => ⟨S8x2048x2, .f32⟩
  | 53 => ⟨S8x2048x2, .f32⟩
  | 54 => ⟨S_, .f32⟩
  | 55 => ⟨S8x2048, .f32⟩
  | 56 => ⟨S8x2048x1, .f32⟩
  | 57 => ⟨S8x2048x2, .f32⟩
  | 58 => ⟨S8x2048x2, .f32⟩
  | 59 => ⟨S8x2048x2x1, .i32⟩
  | 60 => ⟨S1x1x1x8, .i32⟩
  | 61 => ⟨S8x2048x2x8, .i32⟩
  | 62 => ⟨S8x2048x2x8, .i32⟩
  | 63 => ⟨S8x2048x2x8, .i1⟩
  | 64 => ⟨S8x2048x2x8, .f32⟩
  | 65 => ⟨S8x2048x2x1, .f32⟩
  | 66 => ⟨S8x2048x2x8, .f32⟩
  | 67 => ⟨S8x2048x2x8, .f32⟩
  | 68 => ⟨S_, .f32⟩
  | 69 => ⟨S8x2048x8, .f32⟩
  | 70 => ⟨S_, .f32⟩
  | 71 => ⟨S8x2048x1024, .f32⟩
  | 72 => ⟨S8x2048x1, .f32⟩
  | 73 => ⟨S1x1024x1792, .f32⟩
  | 74 => ⟨S1024x1792, .f32⟩
  | 75 => ⟨S1x1024x1792, .f32⟩
  | 76 => ⟨S1024x1792, .f32⟩
  | 77 => ⟨S1x1792x1024, .f32⟩
  | 78 => ⟨S1792x1024, .f32⟩
  | 79 => ⟨S8x2048x1792, .f32⟩
  | 80 => ⟨S8x2048x1792, .f32⟩
  | 81 => ⟨S8x2048x1792, .f32⟩
  | 82 => ⟨S_, .f32⟩
  | 83 => ⟨S8x2048x1792, .f32⟩
  | 84 => ⟨S8x2048x1792, .f32⟩
  | 85 => ⟨S_, .f32⟩
  | 86 => ⟨S8x2048x1792, .f32⟩
  | 87 => ⟨S8x2048x1792, .f32⟩
  | 88 => ⟨S8x2048x1792, .f32⟩
  | 89 => ⟨S8x2048x1792, .f32⟩
  | 90 => ⟨S8x2048x1792, .f32⟩
  | 91 => ⟨S8x2048x1024, .f32⟩
  | 92 => ⟨S8x2048x1024, .f32⟩
  | 93 => ⟨S8x2048x1024, .f32⟩
  | 94 => ⟨S8x2048x1024, .f32⟩
  | 95 => ⟨S8x2048x1, .f32⟩
  | 96 => ⟨S1x1024x1792, .f32⟩
  | 97 => ⟨S1024x1792, .f32⟩
  | 98 => ⟨S1x1024x1792, .f32⟩
  | 99 => ⟨S1024x1792, .f32⟩
  | 100 => ⟨S1x1792x1024, .f32⟩
  | 101 => ⟨S1792x1024, .f32⟩
  | 102 => ⟨S8x2048x1792, .f32⟩
  | 103 => ⟨S8x2048x1792, .f32⟩
  | 104 => ⟨S8x2048x1792, .f32⟩
  | 105 => ⟨S_, .f32⟩
  | 106 => ⟨S8x2048x1792, .f32⟩
  | 107 => ⟨S8x2048x1792, .f32⟩
  | 108 => ⟨S_, .f32⟩
  | 109 => ⟨S8x2048x1792, .f32⟩
  | 110 => ⟨S8x2048x1792, .f32⟩
  | 111 => ⟨S8x2048x1792, .f32⟩
  | 112 => ⟨S8x2048x1792, .f32⟩
  | 113 => ⟨S8x2048x1792, .f32⟩
  | 114 => ⟨S8x2048x1024, .f32⟩
  | 115 => ⟨S8x2048x1024, .f32⟩
  | 116 => ⟨S8x2048x1024, .f32⟩
  | 117 => ⟨S8x2048x1024, .f32⟩
  | 118 => ⟨S8x2048x1, .f32⟩
  | 119 => ⟨S1x1024x1792, .f32⟩
  | 120 => ⟨S1024x1792, .f32⟩
  | 121 => ⟨S1x1024x1792, .f32⟩
  | 122 => ⟨S1024x1792, .f32⟩
  | 123 => ⟨S1x1792x1024, .f32⟩
  | 124 => ⟨S1792x1024, .f32⟩
  | 125 => ⟨S8x2048x1792, .f32⟩
  | 126 => ⟨S8x2048x1792, .f32⟩
  | 127 => ⟨S8x2048x1792, .f32⟩
  | _ => ⟨S8x2048x1024, .f32⟩

abbrev hbmTy0_1 (i : Nat) : BufTy := match i % 128 with
  | 0 => ⟨S_, .f32⟩
  | 1 => ⟨S8x2048x1792, .f32⟩
  | 2 => ⟨S8x2048x1792, .f32⟩
  | 3 => ⟨S_, .f32⟩
  | 4 => ⟨S8x2048x1792, .f32⟩
  | 5 => ⟨S8x2048x1792, .f32⟩
  | 6 => ⟨S8x2048x1792, .f32⟩
  | 7 => ⟨S8x2048x1792, .f32⟩
  | 8 => ⟨S8x2048x1792, .f32⟩
  | 9 => ⟨S8x2048x1024, .f32⟩
  | 10 => ⟨S8x2048x1024, .f32⟩
  | 11 => ⟨S8x2048x1024, .f32⟩
  | 12 => ⟨S8x2048x1024, .f32⟩
  | 13 => ⟨S8x2048x1, .f32⟩
  | 14 => ⟨S1x1024x1792, .f32⟩
  | 15 => ⟨S1024x1792, .f32⟩
  | 16 => ⟨S1x1024x1792, .f32⟩
  | 17 => ⟨S1024x1792, .f32⟩
  | 18 => ⟨S1x1792x1024, .f32⟩
  | 19 => ⟨S1792x1024, .f32⟩
  | 20 => ⟨S8x2048x1792, .f32⟩
  | 21 => ⟨S8x2048x1792, .f32⟩
  | 22 => ⟨S8x2048x1792, .f32⟩
  | 23 => ⟨S_, .f32⟩
  | 24 => ⟨S8x2048x1792, .f32⟩
  | 25 => ⟨S8x2048x1792, .f32⟩
  | 26 => ⟨S_, .f32⟩
  | 27 => ⟨S8x2048x1792, .f32⟩
  | 28 => ⟨S8x2048x1792, .f32⟩
  | 29 => ⟨S8x2048x1792, .f32⟩
  | 30 => ⟨S8x2048x1792, .f32⟩
  | 31 => ⟨S8x2048x1792, .f32⟩
  | 32 => ⟨S8x2048x1024, .f32⟩
  | 33 => ⟨S8x2048x1024, .f32⟩
  | 34 => ⟨S8x2048x1024, .f32⟩
  | 35 => ⟨S8x2048x1024, .f32⟩
  | 36 => ⟨S8x2048x1, .f32⟩
  | 37 => ⟨S1x1024x1792, .f32⟩
  | 38 => ⟨S1024x1792, .f32⟩
  | 39 => ⟨S1x1024x1792, .f32⟩
  | 40 => ⟨S1024x1792, .f32⟩
  | 41 => ⟨S1x1792x1024, .f32⟩
  | 42 => ⟨S1792x1024, .f32⟩
  | 43 => ⟨S8x2048x1792, .f32⟩
  | 44 => ⟨S8x2048x1792, .f32⟩
  | 45 => ⟨S8x2048x1792, .f32⟩
  | 46 => ⟨S_, .f32⟩
  | 47 => ⟨S8x2048x1792, .f32⟩
  | 48 => ⟨S8x2048x1792, .f32⟩
  | 49 => ⟨S_, .f32⟩
  | 50 => ⟨S8x2048x1792, .f32⟩
  | 51 => ⟨S8x2048x1792, .f32⟩
  | 52 => ⟨S8x2048x1792, .f32⟩
  | 53 => ⟨S8x2048x1792, .f32⟩
  | 54 => ⟨S8x2048x1792, .f32⟩
  | 55 => ⟨S8x2048x1024, .f32⟩
  | 56 => ⟨S8x2048x1024, .f32⟩
  | 57 => ⟨S8x2048x1024, .f32⟩
  | 58 => ⟨S8x2048x1024, .f32⟩
  | 59 => ⟨S8x2048x1, .f32⟩
  | 60 => ⟨S1x1024x1792, .f32⟩
  | 61 => ⟨S1024x1792, .f32⟩
  | 62 => ⟨S1x1024x1792, .f32⟩
  | 63 => ⟨S1024x1792, .f32⟩
  | 64 => ⟨S1x1792x1024, .f32⟩
  | 65 => ⟨S1792x1024, .f32⟩
  | 66 => ⟨S8x2048x1792, .f32⟩
  | 67 => ⟨S8x2048x1792, .f32⟩
  | 68 => ⟨S8x2048x1792, .f32⟩
  | 69 => ⟨S_, .f32⟩
  | 70 => ⟨S8x2048x1792, .f32⟩
  | 71 => ⟨S8x2048x1792, .f32⟩
  | 72 => ⟨S_, .f32⟩
  | 73 => ⟨S8x2048x1792, .f32⟩
  | 74 => ⟨S8x2048x1792, .f32⟩
  | 75 => ⟨S8x2048x1792, .f32⟩
  | 76 => ⟨S8x2048x1792, .f32⟩
  | 77 => ⟨S8x2048x1792, .f32⟩
  | 78 => ⟨S8x2048x1024, .f32⟩
  | 79 => ⟨S8x2048x1024, .f32⟩
  | 80 => ⟨S8x2048x1024, .f32⟩
  | 81 => ⟨S8x2048x1024, .f32⟩
  | 82 => ⟨S8x2048x1, .f32⟩
  | 83 => ⟨S1x1024x1792, .f32⟩
  | 84 => ⟨S1024x1792, .f32⟩
  | 85 => ⟨S1x1024x1792, .f32⟩
  | 86 => ⟨S1024x1792, .f32⟩
  | 87 => ⟨S1x1792x1024, .f32⟩
  | 88 => ⟨S1792x1024, .f32⟩
  | 89 => ⟨S8x2048x1792, .f32⟩
  | 90 => ⟨S8x2048x1792, .f32⟩
  | 91 => ⟨S8x2048x1792, .f32⟩
  | 92 => ⟨S_, .f32⟩
  | 93 => ⟨S8x2048x1792, .f32⟩
  | 94 => ⟨S8x2048x1792, .f32⟩
  | 95 => ⟨S_, .f32⟩
  | 96 => ⟨S8x2048x1792, .f32⟩
  | 97 => ⟨S8x2048x1792, .f32⟩
  | 98 => ⟨S8x2048x1792, .f32⟩
  | 99 => ⟨S8x2048x1792, .f32⟩
  | 100 => ⟨S8x2048x1792, .f32⟩
  | 101 => ⟨S8x2048x1024, .f32⟩
  | 102 => ⟨S8x2048x1024, .f32⟩
  | 103 => ⟨S8x2048x1024, .f32⟩
  | 104 => ⟨S8x2048x1024, .f32⟩
  | 105 => ⟨S8x2048x1, .f32⟩
  | 106 => ⟨S1x1024x1792, .f32⟩
  | 107 => ⟨S1024x1792, .f32⟩
  | 108 => ⟨S1x1024x1792, .f32⟩
  | 109 => ⟨S1024x1792, .f32⟩
  | 110 => ⟨S1x1792x1024, .f32⟩
  | 111 => ⟨S1792x1024, .f32⟩
  | 112 => ⟨S8x2048x1792, .f32⟩
  | 113 => ⟨S8x2048x1792, .f32⟩
  | 114 => ⟨S8x2048x1792, .f32⟩
  | 115 => ⟨S_, .f32⟩
  | 116 => ⟨S8x2048x1792, .f32⟩
  | 117 => ⟨S8x2048x1792, .f32⟩
  | 118 => ⟨S_, .f32⟩
  | 119 => ⟨S8x2048x1792, .f32⟩
  | 120 => ⟨S8x2048x1792, .f32⟩
  | 121 => ⟨S8x2048x1792, .f32⟩
  | 122 => ⟨S8x2048x1792, .f32⟩
  | 123 => ⟨S8x2048x1792, .f32⟩
  | 124 => ⟨S8x2048x1024, .f32⟩
  | 125 => ⟨S8x2048x1024, .f32⟩
  | 126 => ⟨S8x2048x1024, .f32⟩
  | 127 => ⟨S8x2048x1024, .f32⟩
  | _ => ⟨S8x2048x1024, .f32⟩

abbrev hbmTy0_2 (i : Nat) : BufTy := match i % 128 with
  | 0 => ⟨S8x2048x1024, .f32⟩
  | 1 => ⟨S8x2048x1024, .f32⟩
  | 2 => ⟨S8x2048x1024, .f32⟩
  | 3 => ⟨S16384x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_values : Ref sig .tc := ⟨.hbm, 43, rfl⟩
abbrev main_indices : Ref sig .tc := ⟨.hbm, 44, rfl⟩
abbrev main_cst_3 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call2_v0 : Ref sig .tc := ⟨.hbm, 103, rfl⟩
abbrev main_call2_v1 : Ref sig .tc := ⟨.hbm, 104, rfl⟩
abbrev main_call2_cst : Ref sig .tc := ⟨.hbm, 105, rfl⟩
abbrev main_call2_v2 : Ref sig .tc := ⟨.hbm, 106, rfl⟩
abbrev main_call2_v3 : Ref sig .tc := ⟨.hbm, 107, rfl⟩
abbrev main_call2_cst_0 : Ref sig .tc := ⟨.hbm, 108, rfl⟩
abbrev main_call2_v4 : Ref sig .tc := ⟨.hbm, 109, rfl⟩
abbrev main_call2_v5 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call3_v0 : Ref sig .tc := ⟨.hbm, 126, rfl⟩
abbrev main_call3_v1 : Ref sig .tc := ⟨.hbm, 127, rfl⟩
abbrev main_call3_cst : Ref sig .tc := ⟨.hbm, 128, rfl⟩
abbrev main_call3_v2 : Ref sig .tc := ⟨.hbm, 129, rfl⟩
abbrev main_call3_v3 : Ref sig .tc := ⟨.hbm, 130, rfl⟩
abbrev main_call3_cst_0 : Ref sig .tc := ⟨.hbm, 131, rfl⟩
abbrev main_call3_v4 : Ref sig .tc := ⟨.hbm, 132, rfl⟩
abbrev main_call3_v5 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_call4_v0 : Ref sig .tc := ⟨.hbm, 149, rfl⟩
abbrev main_call4_v1 : Ref sig .tc := ⟨.hbm, 150, rfl⟩
abbrev main_call4_cst : Ref sig .tc := ⟨.hbm, 151, rfl⟩
abbrev main_call4_v2 : Ref sig .tc := ⟨.hbm, 152, rfl⟩
abbrev main_call4_v3 : Ref sig .tc := ⟨.hbm, 153, rfl⟩
abbrev main_call4_cst_0 : Ref sig .tc := ⟨.hbm, 154, rfl⟩
abbrev main_call4_v4 : Ref sig .tc := ⟨.hbm, 155, rfl⟩
abbrev main_call4_v5 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_call5_v0 : Ref sig .tc := ⟨.hbm, 172, rfl⟩
abbrev main_call5_v1 : Ref sig .tc := ⟨.hbm, 173, rfl⟩
abbrev main_call5_cst : Ref sig .tc := ⟨.hbm, 174, rfl⟩
abbrev main_call5_v2 : Ref sig .tc := ⟨.hbm, 175, rfl⟩
abbrev main_call5_v3 : Ref sig .tc := ⟨.hbm, 176, rfl⟩
abbrev main_call5_cst_0 : Ref sig .tc := ⟨.hbm, 177, rfl⟩
abbrev main_call5_v4 : Ref sig .tc := ⟨.hbm, 178, rfl⟩
abbrev main_call5_v5 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_call6_v0 : Ref sig .tc := ⟨.hbm, 195, rfl⟩
abbrev main_call6_v1 : Ref sig .tc := ⟨.hbm, 196, rfl⟩
abbrev main_call6_cst : Ref sig .tc := ⟨.hbm, 197, rfl⟩
abbrev main_call6_v2 : Ref sig .tc := ⟨.hbm, 198, rfl⟩
abbrev main_call6_v3 : Ref sig .tc := ⟨.hbm, 199, rfl⟩
abbrev main_call6_cst_0 : Ref sig .tc := ⟨.hbm, 200, rfl⟩
abbrev main_call6_v4 : Ref sig .tc := ⟨.hbm, 201, rfl⟩
abbrev main_call6_v5 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_call7_v0 : Ref sig .tc := ⟨.hbm, 218, rfl⟩
abbrev main_call7_v1 : Ref sig .tc := ⟨.hbm, 219, rfl⟩
abbrev main_call7_cst : Ref sig .tc := ⟨.hbm, 220, rfl⟩
abbrev main_call7_v2 : Ref sig .tc := ⟨.hbm, 221, rfl⟩
abbrev main_call7_v3 : Ref sig .tc := ⟨.hbm, 222, rfl⟩
abbrev main_call7_cst_0 : Ref sig .tc := ⟨.hbm, 223, rfl⟩
abbrev main_call7_v4 : Ref sig .tc := ⟨.hbm, 224, rfl⟩
abbrev main_call7_v5 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_call8_v0 : Ref sig .tc := ⟨.hbm, 241, rfl⟩
abbrev main_call8_v1 : Ref sig .tc := ⟨.hbm, 242, rfl⟩
abbrev main_call8_cst : Ref sig .tc := ⟨.hbm, 243, rfl⟩
abbrev main_call8_v2 : Ref sig .tc := ⟨.hbm, 244, rfl⟩
abbrev main_call8_v3 : Ref sig .tc := ⟨.hbm, 245, rfl⟩
abbrev main_call8_cst_0 : Ref sig .tc := ⟨.hbm, 246, rfl⟩
abbrev main_call8_v4 : Ref sig .tc := ⟨.hbm, 247, rfl⟩
abbrev main_call8_v5 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩

abbrev nD : Nat := 1
abbrev τ : Topo := Topo.v7x

variable {F : FTy → Type} [FloatOps F]
-- ==== KernelFfn.lean ====
abbrev S8x2048x1024 : Shape := ⟨3, ![8, 2048, 1024]⟩
abbrev S8x6144 : Shape := ⟨2, ![8, 6144]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S8x1x6144 : Shape := ⟨3, ![8, 1, 6144]⟩
abbrev S1x1024 : Shape := ⟨2, ![1, 1024]⟩
abbrev S512x1024 : Shape := ⟨2, ![512, 1024]⟩
abbrev S1x1x1024 : Shape := ⟨3, ![1, 1, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 13
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S8x1x6144, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceFfnIdeal.lean ====
abbrev S8x2048x1024 : Shape := ⟨3, ![8, 2048, 1024]⟩
abbrev S8x6144 : Shape := ⟨2, ![8, 6144]⟩
abbrev S1024 : Shape := ⟨1, ![1024]⟩
abbrev S1024x2816 : Shape := ⟨2, ![1024, 2816]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S_, .f32⟩
  | .hbm, ⟨45, _⟩ => ⟨S8x2048x2816, .f32⟩
  | .hbm, ⟨46, _⟩ => ⟨S8x2048x2816, .f32⟩
  | .hbm, ⟨47, _⟩ => ⟨S_, .f32⟩
  | .hbm, ⟨48, _⟩ => ⟨S8x2048x2816, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== KernelIn.lean ====
abbrev S8x2048x1024 : Shape := ⟨3, ![8, 2048, 1024]⟩
abbrev S8x6144 : Shape := ⟨2, ![8, 6144]⟩
abbrev S1024 : Shape := ⟨1, ![1024]⟩
abbrev S1024x3344 : Shape := ⟨2, ![1024, 3344]⟩
abbrev S16384x1024 : Shape := ⟨2, ![16384, 1024]⟩
abbrev S8x1x6144 : Shape := ⟨3, ![8, 1, 6144]⟩
abbrev S1x1024 : Shape := ⟨2, ![1, 1024]⟩
abbrev S_ : Shape := ⟨0, ![]⟩
abbrev S1024x112 : Shape := ⟨2, ![1024, 112]⟩
abbrev S1024x512 : Shape := ⟨2, ![1024, 512]⟩
abbrev S1024x256 : Shape := ⟨2, ![1024, 256]⟩
abbrev S1024x768 : Shape := ⟨2, ![1024, 768]⟩
abbrev S1024x4 : Shape := ⟨2, ![1024, 4]⟩
abbrev S1024x8 : Shape := ⟨2, ![1024, 8]⟩
abbrev S1024x3456 : Shape := ⟨2, ![1024, 3456]⟩
abbrev S16384x3456 : Shape := ⟨2, ![16384, 3456]⟩
abbrev S512x1024 : Shape := ⟨2, ![512, 1024]⟩
abbrev S1x1x1024 : Shape := ⟨3, ![1, 1, 1024]⟩
abbrev S1024x1152 : Shape := ⟨2, ![1024, 1152]⟩
abbrev S512x1152 : Shape := ⟨2, ![512, 1152]⟩
abbrev S512 : Shape := ⟨1, ![512]⟩
abbrev S512x1 : Shape := ⟨2, ![512, 1]⟩

abbrev nBuf : Space → Nat
  | .hbm => 21
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x3344, .f32⟩
  | .hbm, ⟨4, _⟩ => ⟨S16384x1024, .f32⟩
  | .hbm, ⟨5, _⟩ => ⟨S8x1x6144, .f32⟩
  | .hbm, ⟨6, _⟩ => ⟨S1x1024, .f32⟩
  | .hbm, ⟨7, _⟩ => ⟨S_, .f32⟩
  | .hbm, ⟨8, _⟩ => ⟨S1024x112, .f32⟩
  | .hbm, ⟨9, _⟩ => ⟨S1024x512, .f32⟩
  | .hbm, ⟨10, _⟩ => ⟨S1024x256, .f32⟩
  | .hbm, ⟨11, _⟩ => ⟨S1024x768, .f32⟩
  | .hbm, ⟨12, _⟩ => ⟨S1024x768, .f32⟩
  | .hbm, ⟨13, _⟩ => ⟨S1024x256, .f32⟩
  | .hbm, ⟨14, _⟩ => ⟨S1024x768, .f32⟩
  | .hbm, ⟨15, _⟩ => ⟨S1024x4, .f32⟩
  | .hbm, ⟨16, _⟩ => ⟨S1024x4, .f32⟩
  | .hbm, ⟨17, _⟩ => ⟨S1024x8, .f32⟩
  | .hbm, ⟨18, _⟩ => ⟨S1024x3456, .f32⟩
  | .hbm, ⟨19, _⟩ => ⟨S1024x3456, .bf16⟩
  | .hbm, ⟨20, _⟩ => ⟨S16384x3456, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1152, .bf16⟩
  | .local _ .vmem, ⟨8, _⟩ => ⟨S1024x1152, .bf16⟩
  | .local _ .vmem, ⟨9, _⟩ => ⟨S512x1152, .f32⟩
  | .local _ .vmem, ⟨10, _⟩ => ⟨S512x1152, .f32⟩
  | .local _ .vmem, ⟨11, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceInIdeal.lean ====
abbrev S8x2048x1024 : Shape := ⟨3, ![8, 2048, 1024]⟩
abbrev S8x6144 : Shape := ⟨2, ![8, 6144]⟩
abbrev S1024 : Shape := ⟨1, ![1024]⟩
abbrev S1024x3344 : Shape := ⟨2, ![1024, 3344]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3344 : Shape := ⟨3, ![8, 2048, 3344]⟩
abbrev S8x2048x772 : Shape := ⟨3, ![8, 2048, 772]⟩
abbrev S8x2048x1032 : Shape := ⟨3, ![8, 2048, 1032]⟩
abbrev S8x2048x768 : Shape := ⟨3, ![8, 2048, 768]⟩
abbrev S8x2048x256 : Shape := ⟨3, ![8, 2048, 256]⟩
abbrev S8x2048x512 : Shape := ⟨3, ![8, 2048, 512]⟩
abbrev S8x2048x4 : Shape := ⟨3, ![8, 2048, 4]⟩
abbrev S8x2048x8 : Shape := ⟨3, ![8, 2048, 8]⟩
abbrev S8x2048x112 : Shape := ⟨3, ![8, 2048, 112]⟩
abbrev S8x2048x3456 : Shape := ⟨3, ![8, 2048, 3456]⟩
abbrev S16384x3456 : Shape := ⟨2, ![16384, 3456]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x3344, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x3344, .f32⟩
  | .hbm, ⟨40, _⟩ => ⟨S8x2048x772, .f32⟩
  | .hbm, ⟨41, _⟩ => ⟨S8x2048x772, .f32⟩
  | .hbm, ⟨42, _⟩ => ⟨S8x2048x1032, .f32⟩
  | .hbm, ⟨43, _⟩ => ⟨S8x2048x768, .f32⟩
  | .hbm, ⟨44, _⟩ => ⟨S8x2048x256, .f32⟩
  | .hbm, ⟨45, _⟩ => ⟨S8x2048x512, .f32⟩
  | .hbm, ⟨46, _⟩ => ⟨S8x2048x4, .f32⟩
  | .hbm, ⟨47, _⟩ => ⟨S8x2048x768, .f32⟩
  | .hbm, ⟨48, _⟩ => ⟨S8x2048x4, .f32⟩
  | .hbm, ⟨49, _⟩ => ⟨S8x2048x768, .f32⟩
  | .hbm, ⟨50, _⟩ => ⟨S8x2048x8, .f32⟩
  | .hbm, ⟨51, _⟩ => ⟨S8x2048x256, .f32⟩
  | .hbm, ⟨52, _⟩ => ⟨S_, .f32⟩
  | .hbm, ⟨53, _⟩ => ⟨S8x2048x112, .f32⟩
  | .hbm, ⟨54, _⟩ => ⟨S8x2048x3456, .f32⟩
  | .hbm, ⟨55, _⟩ => ⟨S16384x3456, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== KernelOut.lean ====
abbrev S8x2048x256 : Shape := ⟨3, ![8, 2048, 256]⟩
abbrev S1024x1024 : Shape := ⟨2, ![1024, 1024]⟩
abbrev S8x2048x1024 : Shape := ⟨3, ![8, 2048, 1024]⟩
abbrev S8x6144 : Shape := ⟨2, ![8, 6144]⟩
abbrev S16384x1024 : Shape := ⟨2, ![16384, 1024]⟩
abbrev S8x1x6144 : Shape := ⟨3, ![8, 1, 6144]⟩
abbrev S16384x256 : Shape := ⟨2, ![16384, 256]⟩
abbrev S512x256 : Shape := ⟨2, ![512, 256]⟩
abbrev S512x1024 : Shape := ⟨2, ![512, 1024]⟩
abbrev S1x1x1024 : Shape := ⟨3, ![1, 1, 1024]⟩
abbrev S256x1024 : Shape := ⟨2, ![256, 1024]⟩
abbrev S1x1024 : Shape := ⟨2, ![1, 1024]⟩

abbrev nBuf : Space → Nat
  | .hbm => 15
  | .vmem => 15
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S1024x1024, .f32⟩
  | .hbm, ⟨5, _⟩ => ⟨S8x2048x1024, .f32⟩
  | .hbm, ⟨6, _⟩ => ⟨S8x6144, .f32⟩
  | .hbm, ⟨7, _⟩ => ⟨S16384x1024, .f32⟩
  | .hbm, ⟨8, _⟩ => ⟨S8x1x6144, .f32⟩
  | .hbm, ⟨9, _⟩ => ⟨S1024x1024, .bf16⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S8x2048x256 : Shape := ⟨3, ![8, 2048, 256]⟩
abbrev S1024x1024 : Shape := ⟨2, ![1024, 1024]⟩
abbrev S8x2048x1024 : Shape := ⟨3, ![8, 2048, 1024]⟩
abbrev S8x6144 : Shape := ⟨2, ![8, 6144]⟩
abbrev S8x1024 : Shape := ⟨2, ![8, 1024]⟩
abbrev S8x1x1024 : Shape := ⟨3, ![8, 1, 1024]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S1024x1024, .f32⟩
  | .hbm, ⟨5, _⟩ => ⟨S8x2048x1024, .f32⟩
  | .hbm, ⟨6, _⟩ => ⟨S8x6144, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S16384x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelPrep.lean ====
abbrev S8x2048x3456 : Shape := ⟨3, ![8, 2048, 3456]⟩
abbrev S64 : Shape := ⟨1, ![64]⟩
abbrev S4 : Shape := ⟨1, ![4]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S_ : Shape := ⟨0, ![]⟩
abbrev S1x128 : Shape := ⟨2, ![1, 128]⟩
abbrev S1 : Shape := ⟨1, ![1]⟩
abbrev S2 : Shape := ⟨1, ![2]⟩
abbrev S8x2048x256 : Shape := ⟨3, ![8, 2048, 256]⟩
abbrev S8x4x64x2048 : Shape := ⟨4, ![8, 4, 64, 2048]⟩
abbrev S8x4x2048 : Shape := ⟨3, ![8, 4, 2048]⟩
abbrev S8x2048x128 : Shape := ⟨3, ![8, 2048, 128]⟩
abbrev S8x8x2048 : Shape := ⟨3, ![8, 8, 2048]⟩
abbrev S8x8x1x256 : Shape := ⟨4, ![8, 8, 1, 256]⟩
abbrev S1x256x256 : Shape := ⟨3, ![1, 256, 256]⟩
abbrev S1x256x128 : Shape := ⟨3, ![1, 256, 128]⟩
abbrev S1x4x64x256 : Shape := ⟨4, ![1, 4, 64, 256]⟩
abbrev S1x4x256 : Shape := ⟨3, ![1, 4, 256]⟩
abbrev S1x8x256 : Shape := ⟨3, ![1, 8, 256]⟩
abbrev S1x1x1x256 : Shape := ⟨4, ![1, 1, 1, 256]⟩
abbrev S256x256 : Shape := ⟨2, ![256, 256]⟩
abbrev S64x256 : Shape := ⟨2, ![64, 256]⟩
abbrev S1x1x64x256 : Shape := ⟨4, ![1, 1, 64, 256]⟩
abbrev S256x128 : Shape := ⟨2, ![256, 128]⟩
abbrev S128x128 : Shape := ⟨2, ![128, 128]⟩
abbrev S128x256 : Shape := ⟨2, ![128, 256]⟩
abbrev S4x256 : Shape := ⟨2, ![4, 256]⟩
abbrev S8x256 : Shape := ⟨2, ![8, 256]⟩

abbrev nBuf : Space → Nat
  | .hbm => 40
  | .vmem => 40
  | .smem => 0
  | _ => 0

abbrev bufTy : (tb : Table) → Fin (tcTables nBuf tb) → BufTy
  | .hbm, ⟨0, _⟩ => ⟨S8x2048x3456, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4, .f32⟩
  | .hbm, ⟨6, _⟩ => ⟨S1x64, .f32⟩
  | .hbm, ⟨7, _⟩ => ⟨S4x64, .f32⟩
  | .hbm, ⟨8, _⟩ => ⟨S256, .f32⟩
  | .hbm, ⟨9, _⟩ => ⟨S1x256, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1x256, .f32⟩
  | .hbm, ⟨18, _⟩ => ⟨S1x64, .f32⟩
  | .hbm, ⟨19, _⟩ => ⟨S4x64, .f32⟩
  | .hbm, ⟨20, _⟩ => ⟨S256, .f32⟩
  | .hbm, ⟨21, _⟩ => ⟨S1x256, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S8x2048x256, .f32⟩
  | .hbm, ⟨31, _⟩ => ⟨S8x4x64x2048, .f32⟩
  | .hbm, ⟨32, _⟩ => ⟨S8x4x64x2048, .f32⟩
  | .hbm, ⟨33, _⟩ => ⟨S8x2048x256, .f32⟩
  | .hbm, ⟨34, _⟩ => ⟨S8x4x64x2048, .f32⟩
  | .hbm, ⟨35, _⟩ => ⟨S8x4x64x2048, .f32⟩
  | .hbm, ⟨36, _⟩ => ⟨S8x4x2048, .f32⟩
  | .hbm, ⟨37, _⟩ => ⟨S8x2048x128, .f32⟩
  | .hbm, ⟨38, _⟩ => ⟨S8x8x2048, .f32⟩
  | .hbm, ⟨39, _⟩ => ⟨S8x8x1x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x128, .f32⟩
  | .local _ .vmem, ⟨13, _⟩ => ⟨S1x256x128, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x128, .f32⟩
  | .local _ .vmem, ⟨19, _⟩ => ⟨S1x256x256, .f32⟩
  | .local _ .vmem, ⟨20, _⟩ => ⟨S1x256x256, .f32⟩
  | .local _ .vmem, ⟨21, _⟩ => ⟨S1x4x64x256, .f32⟩
  | .local _ .vmem, ⟨22, _⟩ => ⟨S1x4x64x256, .f32⟩
  | .local _ .vmem, ⟨23, _⟩ => ⟨S1x4x64x256, .f32⟩
  | .local _ .vmem, ⟨24, _⟩ => ⟨S1x4x64x256, .f32⟩
  | .local _ .vmem, ⟨25, _⟩ => ⟨S1x256x256, .f32⟩
  | .local _ .vmem, ⟨26, _⟩ => ⟨S1x256x256, .f32⟩
  | .local _ .vmem, ⟨27, _⟩ => ⟨S1x4x64x256, .f32⟩
  | .local _ .vmem, ⟨28, _⟩ => ⟨S1x4x64x256, .f32⟩
  | .local _ .vmem, ⟨29, _⟩ => ⟨S1x4x64x256, .f32⟩
  | .local _ .vmem, ⟨30, _⟩ => ⟨S1x4x64x256, .f32⟩
  | .local _ .vmem, ⟨31, _⟩ => ⟨S1x4x256, .f32⟩
  | .local _ .vmem, ⟨32, _⟩ => ⟨S1x4x256, .f32⟩
  | .local _ .vmem, ⟨33, _⟩ => ⟨S1x256x128, .f32⟩
  | .local _ .vmem, ⟨34, _⟩ => ⟨S1x256x128, .f32⟩
  | .local _ .vmem, ⟨35, _⟩ => ⟨S1x8x256, .f32⟩
  | .local _ .vmem, ⟨36, _⟩ => ⟨S1x8x256, .f32⟩
  | .local _ .vmem, ⟨37, _⟩ => ⟨S1x1x1x256, .f32⟩
  | .local _ .vmem, ⟨38, _⟩ => ⟨S1x1x1x256, .f32⟩
  | .local _ .vmem, ⟨39, _⟩ => ⟨S1x128, .f32⟩
  | _, _ => ⟨S8x2048x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev main_v21_6 : Ref sig .tc := ⟨.hbm, 36, rfl⟩
abbrev main_v21_7 : Ref sig .tc := ⟨.hbm, 37, rfl⟩
abbrev main_v21_8 : Ref sig .tc := ⟨.hbm, 38, rfl⟩
abbrev main_v21_9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let c0_i32 : BitVec 32 := 0#32
  ![arg0.toNat, arg1.toNat, c26_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferencePrepIdeal.lean ====
abbrev S8x2048x3456 : Shape := ⟨3, ![8, 2048, 3456]⟩
abbrev S64 : Shape := ⟨1, ![64]⟩
abbrev S4 : Shape := ⟨1, ![4]⟩
abbrev S8x2048x256 : Shape := ⟨3, ![8, 2048, 256]⟩
abbrev S8x2048x4x64 : Shape := ⟨4, ![8, 2048, 4, 64]⟩
abbrev S_ : Shape := ⟨0, ![]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S1x1x4 : Shape := ⟨3, ![1, 1, 4]⟩
abbrev S8x4x64x2048 : Shape := ⟨4, ![8, 4, 64, 2048]⟩
abbrev S8x4x2048 : Shape := ⟨3, ![8, 4, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x3456, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4, .f32⟩
  | .hbm, ⟨6, _⟩ => ⟨S8x2048x256, .f32⟩
  | .hbm, ⟨7, _⟩ => ⟨S8x2048x4x64, .f32⟩
  | .hbm, ⟨8, _⟩ => ⟨S8x2048x4x64, .f32⟩
  | .hbm, ⟨9, _⟩ => ⟨S_, .f32⟩
  | .hbm, ⟨10, _⟩ => ⟨S8x2048x4, .f32⟩
  | .hbm, ⟨11, _⟩ => ⟨S8x2048x4x1, .f32⟩
  | .hbm, ⟨12, _⟩ => ⟨S_, .f32⟩
  | .hbm, ⟨13, _⟩ => ⟨S8x2048x4x1, .f32⟩
  | .hbm, ⟨14, _⟩ => ⟨S8x2048x4x1, .f32⟩
  | .hbm, ⟨15, _⟩ => ⟨S_, .f32⟩
  | .hbm, ⟨16, _⟩ => ⟨S8x2048x4x1, .f32⟩
  | .hbm, ⟨17, _⟩ => ⟨S8x2048x4x1, .f32⟩
  | .hbm, ⟨18, _⟩ => ⟨S8x2048x4x1, .f32⟩
  | .hbm, ⟨19, _⟩ => ⟨S8x2048x4x64, .f32⟩
  | .hbm, ⟨20, _⟩ => ⟨S8x2048x4x64, .f32⟩
  | .hbm, ⟨21, _⟩ => ⟨S1x1x1x64, .f32⟩
  | .hbm, ⟨22, _⟩ => ⟨S8x2048x4x64, .f32⟩
  | .hbm, ⟨23, _⟩ => ⟨S8x2048x4x64, .f32⟩
  | .hbm, ⟨24, _⟩ => ⟨S8x2048x256, .f32⟩
  | .hbm, ⟨25, _⟩ => ⟨S8x2048x4x64, .f32⟩
  | .hbm, ⟨26, _⟩ => ⟨S8x2048x256, .f32⟩
  | .hbm, ⟨27, _⟩ => ⟨S8x2048x4x64, .f32⟩
  | .hbm, ⟨28, _⟩ => ⟨S8x2048x4x64, .f32⟩
  | .hbm, ⟨29, _⟩ => ⟨S_, .f32⟩
  | .hbm, ⟨30, _⟩ => ⟨S8x2048x4, .f32⟩
  | .hbm, ⟨31, _⟩ => ⟨S8x2048x4x1, .f32⟩
  | .hbm, ⟨32, _⟩ => ⟨S_, .f32⟩
  | .hbm, ⟨33, _⟩ => ⟨S8x2048x4x1, .f32⟩
  | .hbm, ⟨34, _⟩ => ⟨S8x2048x4x1, .f32⟩
  | .hbm, ⟨35, _⟩ => ⟨S_, .f32⟩
  | .hbm, ⟨36, _⟩ => ⟨S8x2048x4x1, .f32⟩
  | .hbm, ⟨37, _⟩ => ⟨S8x2048x4x1, .f32⟩
  | .hbm, ⟨38, _⟩ => ⟨S8x2048x4x1, .f32⟩
  | .hbm, ⟨39, _⟩ => ⟨S8x2048x4x64, .f32⟩
  | .hbm, ⟨40, _⟩ => ⟨S8x2048x4x64, .f32⟩
  | .hbm, ⟨41, _⟩ => ⟨S1x1x1x64, .f32⟩
  | .hbm, ⟨42, _⟩ => ⟨S8x2048x4x64, .f32⟩
  | .hbm, ⟨43, _⟩ => ⟨S8x2048x4x64, .f32⟩
  | .hbm, ⟨44, _⟩ => ⟨S8x2048x256, .f32⟩
  | .hbm, ⟨45, _⟩ => ⟨S8x2048x4x64, .f32⟩
  | .hbm, ⟨46, _⟩ => ⟨S8x2048x4, .f32⟩
  | .hbm, ⟨47, _⟩ => ⟨S1x1x4, .f32⟩
  | .hbm, ⟨48, _⟩ => ⟨S8x2048x4, .f32⟩
  | .hbm, ⟨49, _⟩ => ⟨S8x2048x4, .f32⟩
  | .hbm, ⟨50, _⟩ => ⟨S8x2048x4, .f32⟩
  | .hbm, ⟨51, _⟩ => ⟨S_, .f32⟩
  | .hbm, ⟨52, _⟩ => ⟨S8x2048x4, .f32⟩
  | .hbm, ⟨53, _⟩ => ⟨S8x2048x4, .f32⟩
  | .hbm, ⟨54, _⟩ => ⟨S8x2048x4, .f32⟩
  | .hbm, ⟨55, _⟩ => ⟨S8x2048x4, .f32⟩
  | .hbm, ⟨56, _⟩ => ⟨S8x2048x4, .i1⟩
  | .hbm, ⟨57, _⟩ => ⟨S8x2048x4, .f32⟩
  | .hbm, ⟨58, _⟩ => ⟨S8x2048x4, .f32⟩
  | .hbm, ⟨59, _⟩ => ⟨S8x2048x4, .f32⟩
  | .hbm, ⟨60, _⟩ => ⟨S8x2048x4, .f32⟩
  | .hbm, ⟨61, _⟩ => ⟨S8x2048x4, .f32⟩
  | .hbm, ⟨62, _⟩ => ⟨S8x2048x4, .f32⟩
  | .hbm, ⟨63, _⟩ => ⟨S8x2048x4, .f32⟩
  | .hbm, ⟨64, _⟩ => ⟨S8x2048x4, .f32⟩
  | .hbm, ⟨65, _⟩ => ⟨S8x2048x4, .f32⟩
  | .hbm, ⟨66, _⟩ => ⟨S8x4x64x2048, .f32⟩
  | .hbm, ⟨67, _⟩ => ⟨S8x4x64x2048, .f32⟩
  | .hbm, ⟨68, _⟩ => ⟨S8x4x2048, .f32⟩
  | .hbm, ⟨69, _⟩ => ⟨S8x4x64x2048, .f32⟩
  | .hbm, ⟨70, _⟩ => ⟨S8x4x64x2048, .f32⟩
  | _, _ => ⟨S8x2048x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== Proof.Moe.Consts.lean ====
module

public import Idealize.ShloMosaic.PureOps.Ideal
public import Idealize.ShloMosaic.Lib.IdealHost

/-! The float constants of the two programs, as extended reals. -/

@[expose] public section

namespace Cert.Moe.Consts

open Idealize.ShloMosaic

/-- The word of minus infinity. -/
theorem negInf : Ideal.ofBits .f32 0xFF800000#32 = ⊥ := by
  simp [Ideal.ofBits, Ideal.ieee]

/-- The word of plus infinity. -/
theorem posInf : Ideal.ofBits .f32 0x7F800000#32 = ⊤ := by
  simp [Ideal.ofBits, Ideal.ieee]

/-- The word of 128. -/
theorem c128 : Ideal.ofBits .f32 0x43000000#32 = ((128 : ℝ) : EReal) := by
  simp [Ideal.ofBits, Ideal.ieee, -EReal.coe_mul]
  norm_num

/-- The word of 1024. -/
theorem c1024 : Ideal.ofBits .f32 0x44800000#32 = ((1024 : ℝ) : EReal) := by
  simp [Ideal.ofBits, Ideal.ieee, -EReal.coe_mul]
  norm_num

/-- The norm's epsilon is a positive real number. -/
theorem eps_pos : ∃ r : ℝ, 0 < r ∧ Ideal.ofBits .f32 0x358637BD#32 = (r : EReal) := by
  refine ⟨_, ?_, by simp [Ideal.ofBits, Ideal.ieee]; rfl⟩
  norm_num

end Cert.Moe.Consts
-- ==== Proof.Moe.Routing.lean ====
module

public import Idealize.ShloMosaic.PureOps.Ideal
public import Idealize.ShloMosaic.Lib.SortPrefix
public import Idealize.ShloMosaic.Lib.Pointwise

/-! The routing of one token among eight experts: the two greatest logits, and each expert's gate. -/

@[expose] public section

noncomputable section

namespace Cert.Moe.Routing

open Idealize.ShloMosaic
open scoped Classical

/-- `p` holds the greatest logit and `q` the greatest of the others, the earlier position where two are equal. -/
structure Top2 (z : Fin 8 → EReal) (p q : Fin 8) : Prop where
  ne : p ≠ q
  max : ∀ j, z j ≤ z p
  first : ∀ j, j < p → z j < z p
  max' : ∀ j, j ≠ p → z j ≤ z q
  first' : ∀ j, j ≠ p → j < q → z j < z q

/-- A nonempty set of positions has a first position of the greatest value. -/
theorem exists_first_max (z : Fin 8 → EReal) (S : Finset (Fin 8)) (hS : S.Nonempty) :
    ∃ p ∈ S, (∀ j ∈ S, z j ≤ z p) ∧ ∀ j ∈ S, j < p → z j < z p := by
  obtain ⟨a, ha, hmax⟩ := Finset.exists_max_image S z hS
  have hne : (S.filter fun j => z j = z a).Nonempty := ⟨a, Finset.mem_filter.mpr ⟨ha, rfl⟩⟩
  obtain ⟨p, hp, hmin⟩ := Finset.exists_min_image (S.filter fun j => z j = z a) id hne
  obtain ⟨hpS, hpa⟩ := Finset.mem_filter.mp hp
  refine ⟨p, hpS, fun j hj => hpa ▸ hmax j hj, fun j hj hlt => lt_of_le_of_ne (hpa ▸ hmax j hj) fun e => ?_⟩
  exact absurd (hmin j (Finset.mem_filter.mpr ⟨hj, e.trans hpa⟩)) (not_le.mpr hlt)

/-- Every eight logits have their two greatest. -/
theorem exists_top2 (z : Fin 8 → EReal) : ∃ p q, Top2 z p q := by
  obtain ⟨p, -, hp, hp'⟩ := exists_first_max z Finset.univ Finset.univ_nonempty
  obtain ⟨q, hq, hmax, hfirst⟩ := exists_first_max z (Finset.univ.erase p)
    ((Finset.erase_nonempty (Finset.mem_univ p)).mpr ⟨0, Finset.mem_univ _, 1, Finset.mem_univ _, by decide⟩)
  refine ⟨p, q, ⟨fun e => (Finset.mem_erase.mp hq).1 e.symm, fun j => hp j (Finset.mem_univ j),
    fun j h => hp' j (Finset.mem_univ j) h, fun j hj => hmax j (Finset.mem_erase.mpr ⟨hj, Finset.mem_univ j⟩),
    fun j hj h => hfirst j (Finset.mem_erase.mpr ⟨hj, Finset.mem_univ j⟩) h⟩⟩

/-- The weight of the second expert before the division: the exponential of its distance below the first. -/
def ratio (z : Fin 8 → EReal) (p q : Fin 8) : EReal := Ideal.exp (z q - z p)

/-- An expert's gate: the softmax weight of the two chosen, nothing for the others. -/
def gate (z : Fin 8 → EReal) (p q e : Fin 8) : EReal :=
  if e = p then Ideal.div 1 (1 + ratio z p q) else
    if e = q then ratio z p q * Ideal.div 1 (1 + ratio z p q) else 0

/-- The gate of finite logits is a real number, and not negative. -/
theorem gate_real (z : Fin 8 → EReal) (hz : ∀ j, ∃ r : ℝ, z j = r) (p q e : Fin 8) :
    ∃ r : ℝ, 0 ≤ r ∧ gate z p q e = r := by
  obtain ⟨a, ha⟩ := hz p
  obtain ⟨b, hb⟩ := hz q
  have hr : ratio z p q = (Real.exp (b - a) : ℝ) := by
    unfold ratio
    rw [ha, hb, ← EReal.coe_sub, Ideal.exp_coe]
  have hpos : (0 : ℝ) < 1 + Real.exp (b - a) := by positivity
  have hw : Ideal.div 1 (1 + ratio z p q) = ((1 / (1 + Real.exp (b - a)) : ℝ) : EReal) := by
    rw [hr, ← EReal.coe_one, ← EReal.coe_add, Ideal.div_coe hpos.ne', EReal.coe_one, one_mul]
  unfold gate
  split_ifs
  · exact ⟨_, by positivity, hw⟩
  · exact ⟨Real.exp (b - a) * (1 / (1 + Real.exp (b - a))), by positivity, by rw [hw, hr, ← EReal.coe_mul]⟩
  · exact ⟨0, le_refl _, rfl⟩

/-! ## On 128 lanes: the masked maximum, twice -/

/-- The greatest value over the lanes. -/
def top (Z : Fin 128 → EReal) : EReal := Finset.univ.fold max ⊥ Z

/-- The first lane that holds the value `v`, as a number (128 where none does). -/
def firstLane (Z : Fin 128 → EReal) (v : EReal) : EReal :=
  Finset.univ.fold min ⊤ fun l : Fin 128 => if Z l = v then ((l.val : ℝ) : EReal) else ((128 : ℝ) : EReal)

/-- The lanes with lane `i` masked. -/
def without (Z : Fin 128 → EReal) (i : EReal) : Fin 128 → EReal :=
  fun l => if ((l.val : ℝ) : EReal) = i then ⊥ else Z l

/-- The gate the lanes hold: the first maximum's lane, the second's, and zero. -/
def laneGate (Z : Fin 128 → EReal) (l : Fin 128) : EReal :=
  let v1 := top Z
  let i1 := firstLane Z v1
  let rest := without Z i1
  let v2 := top rest
  let i2 := firstLane rest v2
  let e2 := Ideal.exp (v2 - v1)
  let w1 := Ideal.div 1 (1 + e2)
  if ((l.val : ℝ) : EReal) = i1 then w1 else if ((l.val : ℝ) : EReal) = i2 then e2 * w1 else 0

/-- The largest of the lanes, from one that is largest. -/
theorem top_eq (Z : Fin 128 → EReal) (p : Fin 128) (h : ∀ l, Z l ≤ Z p) : top Z = Z p :=
  le_antisymm (Finset.fold_max_le _ |>.mpr ⟨bot_le, fun l _ => h l⟩)
    (Finset.le_fold_max _ |>.mpr (Or.inr ⟨p, Finset.mem_univ p, le_refl _⟩))

/-- The first lane of a value, from a lane before which the value does not occur. -/
theorem firstLane_eq (Z : Fin 128 → EReal) (p : Fin 128) (h : ∀ l, l < p → Z l ≠ Z p) :
    firstLane Z (Z p) = ((p.val : ℝ) : EReal) := by
  refine le_antisymm (Finset.fold_min_le _ |>.mpr (Or.inr ⟨p, Finset.mem_univ p, by rw [if_pos rfl]⟩))
    (Finset.le_fold_min _ |>.mpr ⟨le_top, fun l _ => ?_⟩)
  split_ifs with e
  · have : ¬ l < p := fun hl => h l hl e
    have hle : p.val ≤ l.val := by omega
    exact_mod_cast hle
  · have hle : p.val ≤ 128 := by omega
    exact_mod_cast hle

/-- Lanes are told apart by their numbers. -/
theorem lane_inj (l p : Fin 128) : (((l.val : ℝ) : EReal) = ((p.val : ℝ) : EReal)) ↔ l = p := by
  rw [EReal.coe_eq_coe_iff, Nat.cast_inj, Fin.val_inj]

/-- The lanes of eight logits: the others masked. -/
def lanes (z : Fin 8 → EReal) : Fin 128 → EReal := fun l => if h : l.val < 8 then z ⟨l.val, h⟩ else ⊥

/-- The lane of an expert. -/
def lane (e : Fin 8) : Fin 128 := ⟨e.val, by omega⟩

/-- An expert's lane holds its logit. -/
theorem lanes_lane (z : Fin 8 → EReal) (e : Fin 8) : lanes z (lane e) = z e := dif_pos e.isLt

/-- Experts are told apart by their lanes. -/
theorem lane_eq_iff (e p : Fin 8) : lane e = lane p ↔ e = p :=
  ⟨fun h => Fin.ext (Fin.mk.inj h), fun h => h ▸ rfl⟩

/-- Over the lanes of eight logits above the mask, the masked maximum taken twice gives each expert its gate. -/
theorem laneGate_lanes (z : Fin 8 → EReal) (hz : ∀ j, z j ≠ ⊥) (p q : Fin 8) (h : Top2 z p q) (e : Fin 8) :
    laneGate (lanes z) (lane e) = gate z p q e := by
  have h1 : top (lanes z) = z p := by
    rw [← lanes_lane z p]
    refine top_eq _ _ fun l => ?_
    rw [lanes_lane]
    unfold lanes
    split_ifs with hl
    · exact h.max _
    · exact bot_le
  have h2 : firstLane (lanes z) (z p) = (((lane p).val : ℝ) : EReal) := by
    rw [← lanes_lane z p]
    refine firstLane_eq _ _ fun l hl => ?_
    rw [lanes_lane]
    unfold lanes
    have hlp : l.val < p.val := hl
    rw [dif_pos (show l.val < 8 by omega)]
    exact ne_of_lt (h.first _ hlp)
  have h3 : ∀ l, without (lanes z) (((lane p).val : ℝ) : EReal) l = if l = lane p then ⊥ else lanes z l := fun l => by
    unfold without
    simp only [lane_inj]
  have hq : without (lanes z) (((lane p).val : ℝ) : EReal) (lane q) = z q := by
    rw [h3, if_neg (fun e => h.ne ((lane_eq_iff _ _).mp e).symm), lanes_lane]
  have h4 : top (without (lanes z) (((lane p).val : ℝ) : EReal)) = z q := by
    rw [← hq]
    refine top_eq _ _ fun l => ?_
    rw [hq, h3]
    split_ifs with hl
    · exact bot_le
    · unfold lanes
      split_ifs with hl'
      · exact h.max' _ fun e => hl (Fin.ext (congrArg (fun x : Fin 8 => x.val) e))
      · exact bot_le
  have h5 : firstLane (without (lanes z) (((lane p).val : ℝ) : EReal)) (z q) = (((lane q).val : ℝ) : EReal) := by
    rw [← hq]
    refine firstLane_eq _ _ fun l hl => ?_
    rw [hq, h3]
    split_ifs with hlp
    · exact (hz q).symm
    · unfold lanes
      have hlq : l.val < q.val := hl
      rw [dif_pos (show l.val < 8 by omega)]
      exact ne_of_lt (h.first' _ (fun e => hlp (Fin.ext (congrArg (fun x : Fin 8 => x.val) e))) hlq)
  unfold laneGate
  simp only [h1, h2, h4, h5, lane_inj, lane_eq_iff]
  rfl

/-! ## By a stable sort: the first two positions -/

/-- Two orders that agree wherever a later element is compared with an earlier one sort alike. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort of eight logits, greatest first, begins with the two greatest. -/
theorem sortedFrom_top2 (z : Fin 8 → EReal) (p q : Fin 8) (h : Top2 z p q) :
    sortedFrom (fun k k' : Fin 8 => Ideal.cmpTotal .gt (z k) (z k') == 1#1) 0 = p
      ∧ sortedFrom (fun k k' : Fin 8 => Ideal.cmpTotal .gt (z k) (z k') == 1#1) 1 = q := by
  have hB := StrictTotalBefore.of_key_then_position (fun a b : EReal => decide (b < a)) z (by simp)
    (fun a b c hab hbc => by
      simp only [decide_eq_true_eq] at hab hbc ⊢; exact hbc.trans hab)
    (fun a b => by
      simp only [decide_eq_true_eq]
      rcases lt_trichotomy a b with h | h | h
      · exact Or.inr (Or.inr h)
      · exact Or.inr (Or.inl h)
      · exact Or.inl h)
  have hR : (fun k k' : Fin 8 => Ideal.cmpTotal .gt (z k) (z k') == 1#1) = fun k k' => decide (z k' < z k) := by
    funext k k'
    show (BitVec.ofBool (decide (z k' < z k)) == 1#1) = _
    cases decide (z k' < z k) <;> rfl
  have hs : ∀ k, sortedFrom (fun k k' : Fin 8 => Ideal.cmpTotal .gt (z k) (z k') == 1#1) k
      = sortedFrom (fun k k' : Fin 8 => decide (z k' < z k) || (decide (z k = z k') && decide (k < k'))) k := fun k => by
    rw [hR]
    unfold sortedFrom
    have e : sortPositions 8 (fun k k' : Fin 8 => decide (z k' < z k))
        = sortPositions 8 (fun k k' : Fin 8 => decide (z k' < z k) || (decide (z k = z k') && decide (k < k'))) :=
      stableSort_agree _ _ _ ((List.pairwise_lt_finRange 8).imp fun {a b} hab => by
        have : ¬ b < a := not_lt.mpr hab.le
        simp [this])
    rw [List.get_of_eq e]
    rfl
  have hpre := hB.sortedFrom_eq_of_prefix (k := 2) (by decide) ![p, q]
    (by
      intro i j hij
      fin_cases i <;> fin_cases j
      · rfl
      · exact absurd hij h.ne
      · exact absurd hij.symm h.ne
      · rfl)
    (by
      intro i j hij
      have hi : i = 0 := by omega
      have hj : j = 1 := by omega
      subst hi hj
      show (decide (z p < z q) || (decide (z q = z p) && decide (q < p))) = false
      have h1 : ¬ z p < z q := not_lt.mpr (h.max q)
      by_cases hqp : q < p
      · have := (h.first q hqp).ne
        simp [h1, this]
      · simp [h1, hqp])
    (by
      intro i r hr
      have hrp : r ≠ p := fun e => hr 0 e.symm
      have hrq : r ≠ q := fun e => hr 1 e.symm
      fin_cases i
      · show (decide (z p < z r) || (decide (z r = z p) && decide (r < p))) = false
        have h1 : ¬ z p < z r := not_lt.mpr (h.max r)
        by_cases hlt : r < p
        · have := (h.first r hlt).ne
          simp [h1, this]
        · simp [h1, hlt]
      · show (decide (z q < z r) || (decide (z r = z q) && decide (r < q))) = false
        have h1 : ¬ z q < z r := not_lt.mpr (h.max' r hrp)
        by_cases hlt : r < q
        · have := (h.first' r hrp hlt).ne
          simp [h1, this]
        · simp [h1, hlt])
  exact ⟨(hs 0).trans (hpre 0), (hs 1).trans (hpre 1)⟩

/-- The softmax of the two greatest, spread over the experts by one-hot rows, is each expert's gate. -/
theorem softmax_gate (z : Fin 8 → EReal) (hz : ∀ j, ∃ r : ℝ, z j = r) (p q : Fin 8) (h : Top2 z p q) (e : Fin 8) :
    (if p = e then (1 : EReal) else 0) * Ideal.div (Ideal.exp (z p - z p)) (Ideal.exp (z p - z p) + Ideal.exp (z q - z p))
      + (if q = e then (1 : EReal) else 0)
        * Ideal.div (Ideal.exp (z q - z p)) (Ideal.exp (z p - z p) + Ideal.exp (z q - z p))
      = gate z p q e := by
  obtain ⟨a, ha⟩ := hz p
  obtain ⟨b, hb⟩ := hz q
  have h0 : Ideal.exp (z p - z p) = 1 := by
    rw [ha, ← EReal.coe_sub, sub_self, Ideal.exp_coe, Real.exp_zero, EReal.coe_one]
  have hpos : (0 : ℝ) < 1 + Real.exp (b - a) := by positivity
  have hr : Ideal.exp (z q - z p) = ((Real.exp (b - a) : ℝ) : EReal) := by rw [ha, hb, ← EReal.coe_sub, Ideal.exp_coe]
  have hd : ∀ x : EReal, Ideal.div x (1 + ratio z p q) = x * ((1 / (1 + Real.exp (b - a)) : ℝ) : EReal) := fun x => by
    unfold ratio
    rw [hr, ← EReal.coe_one, ← EReal.coe_add, Ideal.div_coe hpos.ne']
  have hg : ∀ x : EReal, Ideal.div x (1 + Ideal.exp (z q - z p)) = x * ((1 / (1 + Real.exp (b - a)) : ℝ) : EReal) := hd
  unfold gate
  rw [h0, hg, hg, hd, one_mul]
  by_cases h1 : e = p
  · subst h1
    rw [if_pos rfl, if_neg h.ne.symm, if_pos rfl, one_mul, zero_mul, add_zero]
  · rw [if_neg (fun q => h1 q.symm), if_neg h1, zero_mul, zero_add]
    by_cases h2 : e = q
    · subst h2
      rw [if_pos rfl, if_pos rfl, one_mul]
      rfl
    · rw [if_neg (fun q => h2 q.symm), if_neg h2, zero_mul]

end Cert.Moe.Routing
-- ==== Proof.Moe.Pay.lean ====
module

public import proofs.«01_k».proof.Proof.Gen.KernelIdeal.Frame
public import Idealize.ShloMosaic.Lib.Pointwise
public import Idealize.ShloMosaic.Lib.ValueIdx
public import proofs.«01_k».proof.Proof.Moe.Consts
public import proofs.«01_k».proof.Proof.Moe.Routing

/-! The kernel body's arithmetic, read at one index over the extended reals. -/

@[expose] public section

set_option maxRecDepth 16384

noncomputable section

namespace Cert.Moe.Pay

open Idealize.ShloMosaic Idealize.ShloMosaic.TcCoe
open Cert.KernelIdeal Cert.KernelIdeal.Gen

/-- The last store: the input plus the gated accumulator. -/
theorem pay2_apply (x : Vec Ideal S512x1024 .f32) (gt : Vec Ideal S1x1x1024 .f32) (acc : Vec Ideal S512x1024 .f32)
    (r : Fin 512) (d : Fin 1024) :
    k0_pay2 x gt acc (ix2 r d) = x (ix2 r d) + gt (ix3 0 0 d) * acc (ix2 r d) := by
  pointwise [k0_pay2]

/-- The modulated norm of the input's row. -/
theorem pay3_apply (x : Vec Ideal S512x1024 .f32) (g : Vec Ideal S1x1024 .f32) (sc sh : Vec Ideal S1x1x1024 .f32)
    (r : Fin 512) (d : Fin 1024) :
    k0_pay3 x g sc sh (ix2 r d)
      = x (ix2 r d) * Ideal.rsqrt (Ideal.div (∑ k : Fin 1024, x (ix2 r k) * x (ix2 r k))
            (Ideal.ofBits FTy.f32 0x44800000#32) + Ideal.ofBits FTy.f32 0x358637BD#32)
          * g (ix2 0 d) * (1 + sc (ix3 0 0 d)) + sh (ix3 0 0 d) := by
  pointwise [k0_pay3]

/-- The modulated norm as it is kept: over the extended reals the narrower format holds the same number. -/
theorem pay4_apply (x : Vec Ideal S512x1024 .f32) (g : Vec Ideal S1x1024 .f32) (sc sh : Vec Ideal S1x1x1024 .f32)
    (r : Fin 512) (d : Fin 1024) :
    k0_pay4 x g sc sh (ix2 r d) = k0_pay3 x g sc sh (ix2 r d) := by
  pointwise [k0_pay4]

/-- The accumulator starts from zero. -/
theorem pay5_apply (r : Fin 512) (d : Fin 1024) : (k0_pay5 (F := Ideal)) (ix2 r d) = 0 := by
  pointwise [k0_pay5]

/-- One expert block's contribution to a row of the accumulator: the gated SwiGLU of the row, through the block's
    down projection. -/
def part (e : Nat) (h : Fin 1024 → EReal) (gate : Fin 128 → EReal) (wg wu : Fin 1024 → Fin 896 → EReal)
    (wd : Fin 896 → EReal) : EReal :=
  ∑ f : Fin 896, (((∑ k : Fin 1024, h k * wg k f) * Ideal.logistic (∑ k : Fin 1024, h k * wg k f)
      * ∑ k : Fin 1024, h k * wu k f)
    * ∑ l : Fin 128, (if l.val = e then gate l else 0)) * wd f

/-- A choice by equality of a lane with a small number. -/
theorem word_eq (l : Fin 128) (e : Nat) (he : e < 8) (a b : EReal) :
    Scalar.select (IntOp.cmpi CmpIPredicate.eq (BitVec.ofNat 32 l.val) (BitVec.ofNat 32 e)) a b = if l.val = e then a else b := by
  have h1 : l.val % 2 ^ 32 = l.val := Nat.mod_eq_of_lt (by omega)
  have h2 : e % 2 ^ 32 = e := Nat.mod_eq_of_lt (by omega)
  have : (BitVec.ofNat 32 l.val = BitVec.ofNat 32 e) ↔ l.val = e := by
    rw [← BitVec.toNat_inj, BitVec.toNat_ofNat, BitVec.toNat_ofNat, h1, h2]
  by_cases h : l.val = e
  · rw [if_pos h, h]; simp [IntOp.cmpi, Scalar.select]
  · have h' : ¬ (BitVec.ofNat 32 l.val = BitVec.ofNat 32 e) := fun q => h (this.mp q)
    rw [if_neg h]; simp [IntOp.cmpi, Scalar.select, beq_eq_false_iff_ne.mpr h']

/-- The accumulation step: the accumulator plus the block's contribution. -/
theorem pay18_apply (i : grid0.Coords) (e : Nat) (he : (i 1).val = e) (he8 : e < 8) (h : Vec Ideal S512x1024 .bf16)
    (gate : Vec Ideal S512x128 .f32)
    (wg wu : Vec Ideal S1x1024x896 .bf16) (acc : Vec Ideal S512x1024 .f32) (wd : Vec Ideal S1x896x1024 .bf16)
    (r : Fin 512) (d : Fin 1024) :
    k0_pay1 (k0_pay18 i h gate wg wu acc wd) (ix2 r d)
      = acc (ix2 r d) + part e (fun k => h (ix2 r k)) (fun l => gate (ix2 r l)) (fun k f => wg (ix3 0 k f))
          (fun k f => wu (ix3 0 k f)) (fun f => wd (ix3 0 f d)) := by
  subst he
  pointwise [k0_pay1, k0_pay18]
  unfold part
  refine congrArg _ (Finset.sum_congr rfl fun f _ => ?_)
  refine congrArg (· * _) (congrArg _ (Finset.sum_congr rfl fun l _ => ?_))
  exact word_eq l _ he8 _ _

/-! ## The routing -/

/-- The lanes' numbers, as the kernel writes them. -/
def io : FVec Ideal S512x128 .f32 := k0_pay6 (iota .tc S512x128 32 [1] iota_S512x128_d1_w32)

/-- The lanes that hold an expert. -/
def live : IVec S512x128 1 := k0_pay7 (iota .tc S512x128 32 [1] iota_S512x128_d1_w32)

/-- A lane's number. -/
theorem io_apply (r : Fin 512) (l : Fin 128) : io (ix2 r l) = ((l.val : ℝ) : EReal) := by
  unfold io
  pointwise [k0_pay6]
  show (((BitVec.ofNat 32 l.val).toInt : ℝ) : EReal) = _
  have h : (BitVec.ofNat 32 l.val).toInt = (l.val : ℤ) := by
    rw [BitVec.toInt_eq_toNat_of_lt (by rw [BitVec.toNat_ofNat]; omega), BitVec.toNat_ofNat,
      Nat.mod_eq_of_lt (by omega)]
  rw [h, Int.cast_natCast]

/-- A choice by whether a lane is one of an expert. -/
theorem live_apply (r : Fin 512) (l : Fin 128) (a b : EReal) :
    Scalar.select (live (ix2 r l)) a b = if l.val < 8 then a else b := by
  unfold live
  pointwise [k0_pay7]
  have h : (BitVec.ofNat 32 l.val).toInt = (l.val : ℤ) := by
    rw [BitVec.toInt_eq_toNat_of_lt (by rw [BitVec.toNat_ofNat]; omega), BitVec.toNat_ofNat,
      Nat.mod_eq_of_lt (by omega)]
  have h8 : (8#32 : BitVec 32).toInt = 8 := rfl
  by_cases hl : l.val < 8
  · have : (BitVec.ofNat 32 l.val).slt 8#32 = true := by rw [BitVec.slt_iff_toInt_lt, h, h8]; omega
    simp [IntOp.cmpi, Scalar.select, this, hl]
  · have : (BitVec.ofNat 32 l.val).slt 8#32 = false := by
      rw [← Bool.not_eq_true, BitVec.slt_iff_toInt_lt, h, h8]; omega
    simp [IntOp.cmpi, Scalar.select, this, hl]

/-- The mask is the least extended real. -/
theorem mask_eq : (Named.named κ "mask" 0xF149F2CA#32 : Ideal .f32) = ⊥ :=
  IdealRules.named_const.ideal_named_scalar (φ := .f32) κ "mask" 0xF149F2CA#32 ⊥ rfl

/-- A row's logits over the lanes, the lanes of no expert masked. -/
def rowLogit (h : Vec Ideal S512x1024 .f32) (w : Vec Ideal S1024x128 .f32) (r : Fin 512) (l : Fin 128) : EReal :=
  if l.val < 8 then ∑ k : Fin 1024, h (ix2 r k) * w (ix2 k l)
      + (∑ k : Fin 1024, h (ix2 r k) * (w (ix2 k l) - w (ix2 k l))
        + ∑ k : Fin 1024, (h (ix2 r k) - h (ix2 r k)) * w (ix2 k l))
    else ⊥

/-- The logits, masked at the padded lanes. -/
theorem pay8_apply (h : Vec Ideal S512x1024 .f32) (w : Vec Ideal S1024x128 .f32) (r : Fin 512) (l : Fin 128) :
    k0_pay8 h live w (ix2 r l) = rowLogit h w r l := by
  pointwise [k0_pay8]
  rw [live_apply, mask_eq]
  rfl

/-- The largest logit. -/
theorem pay9_apply (h : Vec Ideal S512x1024 .f32) (w : Vec Ideal S1024x128 .f32) (r : Fin 512) :
    k0_pay9 h live w (ix2 r 0) = Routing.top (rowLogit h w r) := by
  pointwise [k0_pay9]
  simp only [pay8_apply, Consts.negInf]
  rfl

/-- The first lane of the largest logit. -/
theorem pay10_apply (h : Vec Ideal S512x1024 .f32) (w : Vec Ideal S1024x128 .f32) (r : Fin 512) :
    k0_pay10 h io live w (ix2 r 0) = Routing.firstLane (rowLogit h w r) (Routing.top (rowLogit h w r)) := by
  pointwise [k0_pay10]
  simp only [pay8_apply, pay9_apply, io_apply, Consts.posInf, Consts.c128]
  rfl

/-- The logits without the first choice. -/
theorem pay11_apply (h : Vec Ideal S512x1024 .f32) (w : Vec Ideal S1024x128 .f32) (r : Fin 512) (l : Fin 128) :
    k0_pay11 h io live w (ix2 r l) = Routing.without (rowLogit h w r) (Routing.firstLane (rowLogit h w r) (Routing.top (rowLogit h w r))) l := by
  pointwise [k0_pay11]
  simp only [pay8_apply, pay10_apply, io_apply, mask_eq]
  rfl

/-- A lane's gate: the softmax of the two chosen logits at the chosen lanes, zero elsewhere. -/
theorem gate_apply (h : Vec Ideal S512x1024 .f32) (w : Vec Ideal S1024x128 .f32) (r : Fin 512) (l : Fin 128) :
    k0_pay17 io (k0_pay13 h io live w) (k0_pay14 h io live w) (k0_pay15 h io live w) (k0_pay16 h io live w) (ix2 r l)
      = Routing.laneGate (rowLogit h w r) l := by
  pointwise [k0_pay17, k0_pay13, k0_pay14, k0_pay15, k0_pay16, k0_pay12]
  simp only [pay9_apply, pay10_apply, pay11_apply, io_apply, Consts.negInf, Consts.posInf, Consts.c128]
  rfl

end Cert.Moe.Pay
-- ==== Proof.Moe.Carry.lean ====
module

public import proofs.«01_k».proof.Proof.Gen.KernelIdeal.Frame
public import proofs.«01_k».proof.Proof.Gen.KernelIdeal.Value
public import Idealize.ShloMosaic.Lib.Pipeline.ValueKit.Acc
public import Idealize.ShloMosaic.Lib.Pipeline.ValueKit.Held
public import Idealize.ShloMosaic.Lib.Pipeline.ValueKit
public import Idealize.ShloMosaic.Lib.Pipeline.ReadBack
public import proofs.«01_k».proof.Proof.Moe.Pay

/-! What the kernel's scratch buffers hold from point to point of a row block's sixteen points. -/

@[expose] public section

set_option maxRecDepth 16384

noncomputable section

namespace Cert.Moe.Carry

open Idealize.ShloMosaic Idealize.ShloMosaic.TcCoe
open Cert.KernelIdeal Cert.KernelIdeal.Gen Cert.Moe.Pay

variable (m : (ℓ : Loc nD τ sig) → Buf (Elt Ideal) ℓ) (c : Dev nD)

/-- The modulated norm of the row block at a point. -/
def hid (t : Fin cfg0.N) : Vec Ideal S512x1024 .f32 :=
  k0_pay3 (iblk m c 0 t) (iblk m c 1 t) (iblk m c 2 t) (iblk m c 3 t)

/-- The modulated norm of the row block, as it is kept. -/
def hidK (t : Fin cfg0.N) : Vec Ideal S512x1024 .bf16 :=
  k0_pay4 (iblk m c 0 t) (iblk m c 1 t) (iblk m c 2 t) (iblk m c 3 t)

/-- The gates of the row block's rows. -/
def gates (t : Fin cfg0.N) : Vec Ideal S512x128 .f32 :=
  k0_pay17 io (k0_pay13 (hid m c t) io live (iblk m c 5 t)) (k0_pay14 (hid m c t) io live (iblk m c 5 t))
    (k0_pay15 (hid m c t) io live (iblk m c 5 t)) (k0_pay16 (hid m c t) io live (iblk m c 5 t))

/-- The accumulator after a point's step over the values read before it. -/
def step (t : Fin cfg0.N) (h : Vec Ideal S512x1024 .bf16) (g : Vec Ideal S512x128 .f32) (acc : Vec Ideal S512x1024 .f32) :
    Vec Ideal S512x1024 .f32 :=
  k0_pay1 (k0_pay18 (grid0.coords t) h g (iblk m c 6 t) (iblk m c 7 t) acc (iblk m c 8 t))

/-- The hidden rows after the first point of a row block. -/
theorem hid_A (t : Fin cfg0.N) (h0 : t.val % 16 = 0) : (outsAt0 m c t.val t.isLt).2.1 = hidK m c t := by
  rw [outsAt0_A m c t h0 (by omega)]
  frame_out
  rfl

/-- The gates after the first point of a row block. -/
theorem gates_A (t : Fin cfg0.N) (h0 : t.val % 16 = 0) : (outsAt0 m c t.val t.isLt).2.2.2 = gates m c t := by
  rw [outsAt0_A m c t h0 (by omega)]
  frame_out
  rfl

/-- The accumulator after the first point of a row block: one step from zero. -/
theorem acc_A (t : Fin cfg0.N) (h0 : t.val % 16 = 0) :
    (outsAt0 m c t.val t.isLt).2.2.1 = step m c t (hidK m c t) (gates m c t) (k0_pay5 (F := Ideal)) := by
  rw [outsAt0_A m c t h0 (by omega)]
  frame_out
  rfl

/-- At a later point the hidden rows are kept. -/
theorem hid_B (t : Fin cfg0.N) (h0 : ¬ t.val % 16 = 0) :
    (outsAt0 m c t.val t.isLt).2.1 = (outsAt0 m c (t.val - 1) (Nat.lt_of_le_of_lt (Nat.sub_le _ _) t.isLt)).2.1 := by
  by_cases h1 : t.val % 16 = 15
  · rw [outsAt0_C m c t h0 h1]; rfl
  · rw [outsAt0_B m c t h0 h1]; rfl

/-- At a later point the gates are kept. -/
theorem gates_B (t : Fin cfg0.N) (h0 : ¬ t.val % 16 = 0) :
    (outsAt0 m c t.val t.isLt).2.2.2 = (outsAt0 m c (t.val - 1) (Nat.lt_of_le_of_lt (Nat.sub_le _ _) t.isLt)).2.2.2 := by
  by_cases h1 : t.val % 16 = 15
  · rw [outsAt0_C m c t h0 h1]; rfl
  · rw [outsAt0_B m c t h0 h1]; rfl

/-- At a later point the accumulator takes one step from what the point before left. -/
theorem acc_B (t : Fin cfg0.N) (h0 : ¬ t.val % 16 = 0) :
    (outsAt0 m c t.val t.isLt).2.2.1
      = step m c t (outsAt0 m c (t.val - 1) (Nat.lt_of_le_of_lt (Nat.sub_le _ _) t.isLt)).2.1
          (outsAt0 m c (t.val - 1) (Nat.lt_of_le_of_lt (Nat.sub_le _ _) t.isLt)).2.2.2
          (outsAt0 m c (t.val - 1) (Nat.lt_of_le_of_lt (Nat.sub_le _ _) t.isLt)).2.2.1 := by
  by_cases h1 : t.val % 16 = 15
  · rw [outsAt0_C m c t h0 h1]
    frame_out
    simp only [read_unread_whole]
    rfl
  · rw [outsAt0_B m c t h0 h1]
    frame_out
    simp only [read_unread_whole]
    rfl

/-- The block the last point writes: the input plus the gated accumulator. -/
theorem out_C (t : Fin cfg0.N) (h1 : t.val % 16 = 15) :
    (outsAt0 m c t.val t.isLt).1 = k0_pay2 (iblk m c 0 t) (iblk m c 4 t) (outsAt0 m c t.val t.isLt).2.2.1 := by
  rw [acc_B m c t (by omega), outsAt0_C m c t (by omega) h1]
  frame_out
  simp only [read_unread_whole]
  rfl

end Cert.Moe.Carry
-- ==== Proof.Moe.Blocks.lean ====
module

public import proofs.«01_k».proof.Proof.Gen.KernelIdeal.Frame
public import Idealize.ShloMosaic.Lib.Pipeline.ValueKit
public import Idealize.ShloMosaic.Lib.Pipeline.ValueKit.Point

@[expose] public section

set_option maxRecDepth 16384

noncomputable section

namespace Cert.Moe.Blocks

open Idealize.ShloMosaic Idealize.ShloMosaic.TcCoe
open Cert.KernelIdeal Cert.KernelIdeal.Gen

variable (m : (ℓ : Loc nD τ sig) → Buf (Elt Ideal) ℓ) (c : Dev nD)

/-- The block of the rows at a point. -/
theorem idx0 : ∀ t : Fin cfg0.N, win0_0.index t = ![t.val / 16, 0] := by decide +kernel
/-- The norm's gain is one block. -/
theorem idx1 : ∀ t : Fin cfg0.N, win0_1.index t = ![0, 0] := by decide +kernel
/-- The block of the scale at a point. -/
theorem idx2 : ∀ t : Fin cfg0.N, win0_2.index t = ![t.val / 64, 0, 4] := by decide +kernel
/-- The block of the shift at a point. -/
theorem idx3 : ∀ t : Fin cfg0.N, win0_3.index t = ![t.val / 64, 0, 3] := by decide +kernel
/-- The block of the residual's gate at a point. -/
theorem idx4 : ∀ t : Fin cfg0.N, win0_4.index t = ![t.val / 64, 0, 5] := by decide +kernel
/-- The router is one block. -/
theorem idx5 : ∀ t : Fin cfg0.N, win0_5.index t = ![0, 0] := by decide +kernel
/-- The block of the experts' gate weights at a point: an expert and a half of the hidden width. -/
theorem idx6 : ∀ t : Fin cfg0.N, win0_6.index t = ![t.val % 16 / 2, 0, t.val % 2] := by decide +kernel
/-- The block of the experts' up weights at a point. -/
theorem idx7 : ∀ t : Fin cfg0.N, win0_7.index t = ![t.val % 16 / 2, 0, t.val % 2] := by decide +kernel
/-- The block of the experts' down weights at a point. -/
theorem idx8 : ∀ t : Fin cfg0.N, win0_8.index t = ![t.val % 16 / 2, t.val % 2, 0] := by decide +kernel

/-- The activations as the launch finds them: the argument's rows, flattened. -/
theorem V0 : V m c main_v0 = shapeCast S16384x1024 (m (c.tc.loc main_arg0)) shapeCasts_S8x2048x1024_S16384x1024 := rfl

/-- The modulation as the launch finds it: the argument with a unit axis. -/
theorem V1 : V m c main_v1 = shapeCast S8x1x6144 (m (c.tc.loc main_arg1)) shapeCasts_S8x6144_S8x1x6144 := rfl

/-- The norm's gain as the launch finds it: the argument as one row. -/
theorem V2 : V m c main_v2 = shapeCast S1x1024 (m (c.tc.loc main_arg2)) shapeCasts_S1024_S1x1024 := rfl

/-- The router as the launch finds it: the argument, padded to 128 lanes. -/
theorem V6 : V m c main_v6 = pad S1024x128 ![0, 0] ![0, 120] ![0, 0] (m (c.tc.loc main_arg3))
    (sitofp (F := Ideal) .f32 (constantI S_ 32 0#32)) pads_S1024x8_S1024x128_000_01200 h_S_ := rfl

/-- The grid's second coordinate is the expert. -/
theorem coord1 : ∀ t : Fin cfg0.N, ((grid0.coords t) 1).val = t.val % 16 / 2 := by decide +kernel

/-- A flattened array at a row: the row's batch and position. -/
theorem flat_apply (x : Vec Ideal S8x2048x1024 .f32) (R : Fin 16384) (d : Fin 1024) (b : Fin 8) (s : Fin 2048)
    (h : R.val = 2048 * b.val + s.val) :
    shapeCast S16384x1024 x shapeCasts_S8x2048x1024_S16384x1024 (ix2 R d) = x (ix3 b s d) := by
  refine shapeCast_apply _ _ _ _ ?_
  rw [rowMajor_val3 (ix3 b s d) 2097152 1024 rfl rfl, rowMajor_val2 (ix2 R d) 1024 rfl]
  show b.val * 2097152 + s.val * 1024 + d.val = R.val * 1024 + d.val
  omega

/-- An array with a unit axis put in, at an index: the operand without it. -/
theorem unit_apply (x : Vec Ideal S8x6144 .f32) (b : Fin 8) (k : Fin 6144) :
    shapeCast S8x1x6144 x shapeCasts_S8x6144_S8x1x6144 (ix3 b 0 k) = x (ix2 b k) := by
  refine shapeCast_apply _ _ _ _ ?_
  rw [rowMajor_val3 (ix3 b 0 k) 6144 6144 rfl rfl, rowMajor_val2 (ix2 b k) 6144 rfl]
  show b.val * 6144 + k.val = b.val * 6144 + 0 * 6144 + k.val
  omega

/-- The rows as the launch finds them. -/
theorem arr0 (R : Fin 16384) (d : Fin 1024) (b : Fin 8) (s : Fin 2048) (h : R.val = 2048 * b.val + s.val) :
    V m c main_v0 (ix2 R d) = m (c.tc.loc main_arg0) (ix3 b s d) := by
  rw [V0]
  exact flat_apply _ R d b s h

/-- The norm's gain as the launch finds it. -/
theorem arr1 (d : Fin 1024) : V m c main_v2 (ix2 0 d) = m (c.tc.loc main_arg2) (ix1 d) := by
  rw [V2]
  pointwise

/-- The modulation as the launch finds it. -/
theorem arr2 (b : Fin 8) (k : Fin 6144) : V m c main_v1 (ix3 b 0 k) = m (c.tc.loc main_arg1) (ix2 b k) := by
  rw [V1]
  exact unit_apply _ b k

/-- The padded router at the lanes of the experts. -/
theorem arr5 (k : Fin 1024) (l : Fin 128) (e : Fin 8) (h : l.val = e.val) :
    V m c main_v6 (ix2 k l) = m (c.tc.loc main_arg3) (ix2 k e) := by
  rw [V6]
  unfold pad
  refine (dif_pos fun a => ?_).trans (congrArg _ ?_)
  · have := e.isLt
    match a with
    | ⟨0, _⟩ => exact ⟨Nat.zero_le _, by show (k.val - 0) % 1 = 0; omega, by show (k.val - 0) / 1 < 1024; omega⟩
    | ⟨1, _⟩ => exact ⟨Nat.zero_le _, by show (l.val - 0) % 1 = 0; omega, by show (l.val - 0) / 1 < 8; omega⟩
  · funext a
    apply Fin.ext
    match a with
    | ⟨0, _⟩ => show (k.val - 0) / 1 = k.val; omega
    | ⟨1, _⟩ => show (l.val - 0) / 1 = e.val; omega

/-- A row at a point. -/
theorem blk0 (t : Fin cfg0.N) (r : Fin 512) (d : Fin 1024) (b : Fin 8) (s : Fin 2048)
    (h : 512 * (t.val / 16) + r.val = 2048 * b.val + s.val) :
    iblk m c 0 t (ix2 r d) = m (c.tc.loc main_arg0) (ix3 b s d) := by
  refine Eq.trans ?_ (arr0 m c ⟨2048 * b.val + s.val, by omega⟩ d b s rfl)
  blk_ext [iblk, idx0 t]

/-- The norm's gain at a point. -/
theorem blk1 (t : Fin cfg0.N) (d : Fin 1024) :
    iblk m c 1 t (ix2 0 d) = m (c.tc.loc main_arg2) (ix1 d) := by
  refine Eq.trans ?_ (arr1 m c d)
  blk_ext [iblk, idx1 t]

/-- The scale at a point. -/
theorem blk2 (t : Fin cfg0.N) (d : Fin 1024) (b : Fin 8) (k : Fin 6144) (h : t.val / 64 = b.val)
    (hk : k.val = 4096 + d.val) :
    iblk m c 2 t (ix3 0 0 d) = m (c.tc.loc main_arg1) (ix2 b k) := by
  refine Eq.trans ?_ (arr2 m c b k)
  blk_ext [iblk, idx2 t]

/-- The shift at a point. -/
theorem blk3 (t : Fin cfg0.N) (d : Fin 1024) (b : Fin 8) (k : Fin 6144) (h : t.val / 64 = b.val)
    (hk : k.val = 3072 + d.val) :
    iblk m c 3 t (ix3 0 0 d) = m (c.tc.loc main_arg1) (ix2 b k) := by
  refine Eq.trans ?_ (arr2 m c b k)
  blk_ext [iblk, idx3 t]

/-- The residual's gate at a point. -/
theorem blk4 (t : Fin cfg0.N) (d : Fin 1024) (b : Fin 8) (k : Fin 6144) (h : t.val / 64 = b.val)
    (hk : k.val = 5120 + d.val) :
    iblk m c 4 t (ix3 0 0 d) = m (c.tc.loc main_arg1) (ix2 b k) := by
  refine Eq.trans ?_ (arr2 m c b k)
  blk_ext [iblk, idx4 t]

/-- The router at a point. -/
theorem blk5 (t : Fin cfg0.N) (k : Fin 1024) (l : Fin 128) (e : Fin 8) (h : l.val = e.val) :
    iblk m c 5 t (ix2 k l) = m (c.tc.loc main_arg3) (ix2 k e) := by
  refine Eq.trans ?_ (arr5 m c k l e h)
  blk_ext [iblk, idx5 t]

/-- An expert's gate weight at a point. -/
theorem blk6 (t : Fin cfg0.N) (k : Fin 1024) (f : Fin 896) (e : Fin 8) (F : Fin 1792)
    (he : t.val % 16 / 2 = e.val) (hf : 896 * (t.val % 2) + f.val = F.val) :
    iblk m c 6 t (ix3 0 k f) = m (c.tc.loc main_arg4) (ix3 e k F) := by
  blk_ext! [iblk, V, idx6 t]

/-- An expert's up weight at a point. -/
theorem blk7 (t : Fin cfg0.N) (k : Fin 1024) (f : Fin 896) (e : Fin 8) (F : Fin 1792)
    (he : t.val % 16 / 2 = e.val) (hf : 896 * (t.val % 2) + f.val = F.val) :
    iblk m c 7 t (ix3 0 k f) = m (c.tc.loc main_arg5) (ix3 e k F) := by
  blk_ext! [iblk, V, idx7 t]

/-- An expert's down weight at a point. -/
theorem blk8 (t : Fin cfg0.N) (d : Fin 1024) (f : Fin 896) (e : Fin 8) (F : Fin 1792)
    (he : t.val % 16 / 2 = e.val) (hf : 896 * (t.val % 2) + f.val = F.val) :
    iblk m c 8 t (ix3 0 f d) = m (c.tc.loc main_arg6) (ix3 e F d) := by
  blk_ext! [iblk, V, idx8 t]

end Cert.Moe.Blocks
-- ==== Proof.Moe.Spec.lean ====
module

public import proofs.«01_k».proof.Proof.Moe.Routing
public import proofs.«01_k».proof.Proof.Moe.Consts
public import Idealize.ShloMosaic.Lib.Pipeline.ValueKit.Acc

/-! The layer's value at one token, written over the extended reals: the modulated norm, the router's logits, an
expert's SwiGLU, and the gated sum over the experts; with the facts about finite entries the two programs need. -/

@[expose] public section

noncomputable section

namespace Cert.Moe.Spec

open Idealize.ShloMosaic

/-- The modulated root-mean-square norm of a token's row. -/
def hidden (x sc sh g : Fin 1024 → EReal) (k : Fin 1024) : EReal :=
  x k * Ideal.rsqrt (Ideal.div (∑ j : Fin 1024, x j * x j) (Ideal.ofBits FTy.f32 0x44800000#32)
      + Ideal.ofBits FTy.f32 0x358637BD#32) * g k * (1 + sc k) + sh k

/-- The router's logits of a row. -/
def logits (h : Fin 1024 → EReal) (R : Fin 1024 → Fin 8 → EReal) (e : Fin 8) : EReal := ∑ k : Fin 1024, h k * R k e

/-- The inner activation of an expert: the gate projection through its sigmoid, times the up projection. -/
def act (h : Fin 1024 → EReal) (wg wu : Fin 1024 → EReal) : EReal :=
  (∑ k : Fin 1024, h k * wg k) * Ideal.logistic (∑ k : Fin 1024, h k * wg k) * ∑ k : Fin 1024, h k * wu k

/-- An expert's output in one column. -/
def expert (h : Fin 1024 → EReal) (wg wu : Fin 1024 → Fin 1792 → EReal) (wd : Fin 1792 → EReal) : EReal :=
  ∑ f : Fin 1792, act h (fun k => wg k f) (fun k => wu k f) * wd f

/-- The layer's output in one column: the input plus the modulated, gated sum of the experts. -/
def out (x gt : EReal) (h : Fin 1024 → EReal) (z : Fin 8 → EReal) (p q : Fin 8)
    (wg wu : Fin 8 → Fin 1024 → Fin 1792 → EReal) (wd : Fin 8 → Fin 1792 → EReal) : EReal :=
  x + gt * ∑ e : Fin 8, Routing.gate z p q e * expert h (wg e) (wu e) (wd e)

/-- A finite extended real. -/
def IsReal (x : EReal) : Prop := ∃ r : ℝ, x = r

/-- A sum of finite numbers is finite. -/
theorem IsReal.add {x y : EReal} (hx : IsReal x) (hy : IsReal y) : IsReal (x + y) := by
  obtain ⟨a, rfl⟩ := hx; obtain ⟨b, rfl⟩ := hy; exact ⟨a + b, by rw [EReal.coe_add]⟩

/-- A product of finite numbers is finite. -/
theorem IsReal.mul {x y : EReal} (hx : IsReal x) (hy : IsReal y) : IsReal (x * y) := by
  obtain ⟨a, rfl⟩ := hx; obtain ⟨b, rfl⟩ := hy; exact ⟨a * b, by rw [EReal.coe_mul]⟩

/-- A finite number is not plus infinity. -/
theorem IsReal.ne_top {x : EReal} (hx : IsReal x) : x ≠ ⊤ := by
  obtain ⟨a, rfl⟩ := hx; exact EReal.coe_ne_top a

/-- One is finite. -/
theorem IsReal.one : IsReal 1 := ⟨1, rfl⟩

/-- A sum over a finite set of finite numbers is finite. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A finite number less itself is nothing. -/
theorem IsReal.sub_self {x : EReal} (hx : IsReal x) : x - x = 0 := by
  obtain ⟨a, rfl⟩ := hx; rw [← EReal.coe_sub, _root_.sub_self, EReal.coe_zero]

/-- The modulated norm of finite entries is finite. -/
theorem hidden_real (x sc sh g : Fin 1024 → EReal) (hx : ∀ k, IsReal (x k)) (hsc : ∀ k, IsReal (sc k))
    (hsh : ∀ k, IsReal (sh k)) (hg : ∀ k, IsReal (g k)) (k : Fin 1024) : IsReal (hidden x sc sh g k) := by
  refine IsReal.add (IsReal.mul (IsReal.mul (IsReal.mul (hx k) ?_) (hg k)) (IsReal.one.add (hsc k))) (hsh k)
  choose a ha using hx
  have hsum : ∑ j : Fin 1024, x j * x j = ((∑ j : Fin 1024, a j * a j : ℝ) : EReal) := by
    rw [show (fun j => x j * x j) = fun j => ((a j * a j : ℝ) : EReal) from
      funext fun j => by rw [ha j, EReal.coe_mul]]
    exact (map_sum (⟨⟨Real.toEReal, EReal.coe_zero⟩, EReal.coe_add⟩ : ℝ →+ EReal) _ _).symm
  obtain ⟨ε, hε, he⟩ := Consts.eps_pos
  have hnn : 0 ≤ ∑ j : Fin 1024, a j * a j := Finset.sum_nonneg fun j _ => mul_self_nonneg _
  have hpos : 0 < (∑ j : Fin 1024, a j * a j) * (1 / 1024) + ε := by positivity
  rw [hsum, Consts.c1024, he, Ideal.div_coe (by norm_num), ← EReal.coe_mul, ← EReal.coe_add, Ideal.rsqrt_coe,
    if_neg (not_lt.mpr hpos.le), if_neg hpos.ne']
  exact ⟨_, rfl⟩

/-- The logits of finite rows and a finite router are finite. -/
theorem logits_real (h : Fin 1024 → EReal) (R : Fin 1024 → Fin 8 → EReal) (hh : ∀ k, IsReal (h k))
    (hR : ∀ k e, IsReal (R k e)) (e : Fin 8) : IsReal (logits h R e) :=
  IsReal.sum _ _ fun k _ => (hh k).mul (hR k e)

/-- A product with a split of both factors into a high part and what it leaves: where the factors are finite nothing is
    left, and only the first product remains. -/
theorem split_dot {n : Nat} (h w : Fin n → EReal) (hh : ∀ k, IsReal (h k)) (hw : ∀ k, IsReal (w k)) :
    ∑ k : Fin n, h k * w k + (∑ k : Fin n, h k * (w k - w k) + ∑ k : Fin n, (h k - h k) * w k)
      = ∑ k : Fin n, h k * w k := by
  have h1 : ∑ k : Fin n, h k * (w k - w k) = 0 := Finset.sum_eq_zero fun k _ => by rw [(hw k).sub_self, mul_zero]
  have h2 : ∑ k : Fin n, (h k - h k) * w k = 0 := Finset.sum_eq_zero fun k _ => by rw [(hh k).sub_self, zero_mul]
  rw [h1, h2, add_zero, add_zero]

/-- A nonnegative real factor goes into a sum. -/
theorem mul_sum_real {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr)
      (EReal.coe_ne_top r), ih]

/-- A sum that keeps one lane is that lane. -/
theorem sum_lane (G : Fin 128 → EReal) (e : Fin 8) :
    ∑ l : Fin 128, (if l.val = e.val then G l else 0) = G (Routing.lane e) := by
  rw [Finset.sum_eq_single (Routing.lane e)]
  · exact if_pos rfl
  · intro l _ hl
    exact if_neg fun h => hl (Fin.ext h)
  · intro h; exact absurd (Finset.mem_univ _) h

/-- The sixteen blocks of the inner dimension, two for each expert, sum to the experts' gated outputs. -/
theorem sum_blocks (g : Fin 8 → EReal) (hg : ∀ e, ∃ r : ℝ, 0 ≤ r ∧ g e = r) (a w : Fin 8 → Fin 1792 → EReal)
    (T : Fin 16 → EReal)
    (hT : ∀ (s : Fin 16) (he : s.val / 2 < 8) (hl : ∀ f : Fin 896, s.val % 2 * 896 + f.val < 1792),
      T s = ∑ f : Fin 896, (a ⟨s.val / 2, he⟩ ⟨s.val % 2 * 896 + f.val, hl f⟩ * g ⟨s.val / 2, he⟩)
        * w ⟨s.val / 2, he⟩ ⟨s.val % 2 * 896 + f.val, hl f⟩) :
    ∑ s : Fin 16, T s = ∑ e : Fin 8, g e * ∑ f : Fin 1792, a e f * w e f := by
  have hsum : ∀ e : Fin 8, g e * ∑ f : Fin 1792, a e f * w e f = ∑ f : Fin 1792, (a e f * g e) * w e f := by
    intro e
    obtain ⟨r, hr, h⟩ := hg e
    rw [h, mul_sum_real _ _ r hr]
    exact Finset.sum_congr rfl fun f _ => by rw [mul_comm (a e f) (r : EReal), mul_assoc]
  rw [Finset.sum_congr rfl fun e _ => hsum e,
    Finset.sum_congr rfl fun s _ => hT s (by omega) (fun f => by omega)]
  refine Fin.sum_points_lanes_congr 2 fun t k ha hl => rfl

end Cert.Moe.Spec
-- ==== Proof.Moe.KernelValue.lean ====
module

public import proofs.«01_k».proof.Proof.Moe.Carry
public import proofs.«01_k».proof.Proof.Moe.Blocks
public import proofs.«01_k».proof.Proof.Moe.Spec

/-! The kernel's result at an index, in terms of its arguments. -/

@[expose] public section

set_option maxRecDepth 16384

noncomputable section

namespace Cert.Moe.KernelValue

open Idealize.ShloMosaic Idealize.ShloMosaic.TcCoe
open Cert.KernelIdeal Cert.KernelIdeal.Gen Cert.Moe.Pay Cert.Moe.Carry Cert.Moe.Blocks

variable (m : (ℓ : Loc nD τ sig) → Buf (Elt Ideal) ℓ) (c : Dev nD)

/-! The arguments by their coordinates. -/

/-- A token's row of the input. -/
def x (b : Fin 8) (s : Fin 2048) (k : Fin 1024) : EReal := m (c.tc.loc main_arg0) (ix3 b s k)
/-- The six modulation vectors of a batch entry, in one row. -/
def md (b : Fin 8) (k : Fin 6144) : EReal := m (c.tc.loc main_arg1) (ix2 b k)
/-- The shift of a batch entry. -/
def sh (b : Fin 8) (k : Fin 1024) : EReal := md m c b ⟨3072 + k.val, by omega⟩
/-- The scale of a batch entry. -/
def sc (b : Fin 8) (k : Fin 1024) : EReal := md m c b ⟨4096 + k.val, by omega⟩
/-- The output modulation of a batch entry. -/
def gt (b : Fin 8) (k : Fin 1024) : EReal := md m c b ⟨5120 + k.val, by omega⟩
/-- The norm's weight. -/
def nw (k : Fin 1024) : EReal := m (c.tc.loc main_arg2) (ix1 k)
/-- The router. -/
def rt (k : Fin 1024) (e : Fin 8) : EReal := m (c.tc.loc main_arg3) (ix2 k e)
/-- The experts' gate projections. -/
def wg (e : Fin 8) (k : Fin 1024) (f : Fin 1792) : EReal := m (c.tc.loc main_arg4) (ix3 e k f)
/-- The experts' up projections. -/
def wu (e : Fin 8) (k : Fin 1024) (f : Fin 1792) : EReal := m (c.tc.loc main_arg5) (ix3 e k f)
/-- The experts' down projections. -/
def wd (e : Fin 8) (f : Fin 1792) (d : Fin 1024) : EReal := m (c.tc.loc main_arg6) (ix3 e f d)
/-- A token's modulated norm. -/
def hd (b : Fin 8) (s : Fin 2048) : Fin 1024 → EReal := Spec.hidden (x m c b s) (sc m c b) (sh m c b) (nw m c)
/-- A token's logits. -/
def lg (b : Fin 8) (s : Fin 2048) : Fin 8 → EReal := Spec.logits (hd m c b s) (rt m c)

/-- The first point of a point's row block. -/
def start (t : Fin cfg0.N) : Fin cfg0.N := ⟨16 * (t.val / 16), Pipeline.run_start_lt t⟩

/-- The kept norm is the row block's, at every point. -/
theorem hid_eq (t : Fin cfg0.N) : (outsAt0 m c t.val t.isLt).2.1 = hidK m c (start t) :=
  Pipeline.eq_of_write_hold (fun n h => (outsAt0 m c n h).2.1) 16 (hidK m c) (hid_A m c) (hid_B m c) t

/-- The kept gates are the row block's, at every point. -/
theorem gates_eq (t : Fin cfg0.N) : (outsAt0 m c t.val t.isLt).2.2.2 = gates m c (start t) :=
  Pipeline.eq_of_write_hold (fun n h => (outsAt0 m c n h).2.2.2) 16 (gates m c) (gates_A m c) (gates_B m c) t

/-- A first point is the start of its row block. -/
theorem start_of_zero (t : Fin cfg0.N) (h0 : t.val % 16 = 0) : start t = t := Fin.ext (by simp only [start]; omega)

/-- A later point and the one before have the same start. -/
theorem start_pred (t : Fin cfg0.N) (h0 : ¬ t.val % 16 = 0) :
    start ⟨t.val - 1, Nat.lt_of_le_of_lt (Nat.sub_le _ _) t.isLt⟩ = start t :=
  Fin.ext (by simp only [start]; omega)

/-- What a point adds to the accumulator. -/
def term (t : Fin cfg0.N) (r : Fin 512) (d : Fin 1024) : EReal :=
  part (t.val % 16 / 2) (fun k => hidK m c (start t) (ix2 r k)) (fun l => gates m c (start t) (ix2 r l))
    (fun k f => iblk m c 6 t (ix3 0 k f)) (fun k f => iblk m c 7 t (ix3 0 k f)) (fun f => iblk m c 8 t (ix3 0 f d))

/-- A step adds its term. -/
theorem step_apply (t : Fin cfg0.N) (acc : Vec Ideal S512x1024 .f32) (r : Fin 512) (d : Fin 1024) :
    step m c t (hidK m c (start t)) (gates m c (start t)) acc (ix2 r d) = acc (ix2 r d) + term m c t r d :=
  pay18_apply (grid0.coords t) (t.val % 16 / 2) (coord1 t) (by omega) _ _ _ _ _ _ r d

/-- The accumulator after a first point. -/
theorem acc_first (t : Fin cfg0.N) (h0 : t.val % 16 = 0) (i : Fin 512 × Fin 1024) :
    (outsAt0 m c t.val t.isLt).2.2.1 (ix2 i.1 i.2) = 0 + term m c t i.1 i.2 := by
  have h := acc_A m c t h0
  rw [h]
  have e := step_apply m c t (k0_pay5 (F := Ideal)) i.1 i.2
  rw [start_of_zero t h0, pay5_apply] at e
  exact e

/-- The accumulator after a later point. -/
theorem acc_next (t : Fin cfg0.N) (h0 : ¬ t.val % 16 = 0) (i : Fin 512 × Fin 1024) :
    (outsAt0 m c t.val t.isLt).2.2.1 (ix2 i.1 i.2)
      = (outsAt0 m c (t.val - 1) (Nat.lt_of_le_of_lt (Nat.sub_le _ _) t.isLt)).2.2.1 (ix2 i.1 i.2) + term m c t i.1 i.2 := by
  have h := acc_B m c t h0
  have hh := hid_eq m c ⟨t.val - 1, Nat.lt_of_le_of_lt (Nat.sub_le _ _) t.isLt⟩
  have hg := gates_eq m c ⟨t.val - 1, Nat.lt_of_le_of_lt (Nat.sub_le _ _) t.isLt⟩
  rw [start_pred t h0] at hh hg
  rw [h]
  refine Eq.trans ?_ (step_apply m c t _ i.1 i.2)
  exact congrArg₂ (fun h g => step m c t h g _ (ix2 i.1 i.2)) hh hg

/-- The accumulator after a row block's last point: the sum of its sixteen points' contributions. -/
theorem acc_last (t : Fin cfg0.N) (h1 : t.val % 16 = 15) (r : Fin 512) (d : Fin 1024) :
    (outsAt0 m c t.val t.isLt).2.2.1 (ix2 r d)
      = 0 + ∑ s : Fin 16, term m c ⟨16 * (t.val / 16) + s.val, Pipeline.run_point_lt_of_flush t h1 s⟩ r d :=
  Pipeline.eq_sum_fin_of_reset_step_apply_of_flush
    (fun n h (i : Fin 512 × Fin 1024) => (outsAt0 m c n h).2.2.1 (ix2 i.1 i.2)) 16 (fun _ => 0)
    (fun t i => term m c t i.1 i.2) (acc_first m c) (acc_next m c) t h1 (r, d)

/-! ## In terms of the arguments -/

/-- The normed and modulated row at a point. -/
theorem hid_apply (t : Fin cfg0.N) (r : Fin 512) (b : Fin 8) (s : Fin 2048)
    (h : 512 * (t.val / 16) + r.val = 2048 * b.val + s.val) (k : Fin 1024) :
    hid m c t (ix2 r k) = hd m c b s k := by
  have hb : t.val / 64 = b.val := by omega
  unfold hid
  rw [pay3_apply, blk1, blk2 m c t k b ⟨4096 + k.val, by omega⟩ hb rfl,
    blk3 m c t k b ⟨3072 + k.val, by omega⟩ hb rfl]
  simp only [blk0 m c t r _ b s h]
  rfl

/-- The hidden row kept for the products. -/
theorem hidK_apply (t : Fin cfg0.N) (r : Fin 512) (b : Fin 8) (s : Fin 2048)
    (h : 512 * (t.val / 16) + r.val = 2048 * b.val + s.val) (k : Fin 1024) :
    hidK m c t (ix2 r k) = hd m c b s k := by
  refine Eq.trans ?_ (hid_apply m c t r b s h k)
  exact pay4_apply _ _ _ _ r k

/-- The kernel's masked logits of a row are the token's eight logits and then the mask. -/
theorem rowLogit_eq (t : Fin cfg0.N) (r : Fin 512) (b : Fin 8) (s : Fin 2048)
    (h : 512 * (t.val / 16) + r.val = 2048 * b.val + s.val) (hh : ∀ k, Spec.IsReal (hd m c b s k))
    (hr : ∀ k e, Spec.IsReal (rt m c k e)) :
    rowLogit (hid m c t) (iblk m c 5 t) r = Routing.lanes (lg m c b s) := by
  funext l
  unfold rowLogit Routing.lanes
  by_cases hl : l.val < 8
  · rw [if_pos hl, dif_pos hl]
    have e5 : ∀ k : Fin 1024, iblk m c 5 t (ix2 k l) = rt m c k ⟨l.val, hl⟩ := fun k => blk5 m c t k l ⟨l.val, hl⟩ rfl
    simp only [e5, hid_apply m c t r b s h]
    exact Spec.split_dot _ _ hh fun k => hr k _
  · rw [if_neg hl, dif_neg hl]

/-- The gates of a row, by its two chosen experts. -/
theorem gates_apply (t : Fin cfg0.N) (r : Fin 512) (b : Fin 8) (s : Fin 2048)
    (h : 512 * (t.val / 16) + r.val = 2048 * b.val + s.val) (hh : ∀ k, Spec.IsReal (hd m c b s k))
    (hr : ∀ k e, Spec.IsReal (rt m c k e)) (p q : Fin 8) (hpq : Routing.Top2 (lg m c b s) p q) (e : Fin 8) :
    gates m c t (ix2 r (Routing.lane e)) = Routing.gate (lg m c b s) p q e := by
  unfold gates
  rw [gate_apply, rowLogit_eq m c t r b s h hh hr]
  refine Routing.laneGate_lanes _ (fun j => ?_) p q hpq e
  obtain ⟨a, ha⟩ := Spec.logits_real _ _ hh hr j
  exact fun hbot => absurd (ha.symm.trans hbot) (EReal.coe_ne_bot a)

/-- The sum of a row block's sixteen contributions to a row: the gated sum of the experts. -/
theorem sum_term (T : Nat) (hT : ∀ s : Fin 16, 16 * T + s.val < cfg0.N) (r : Fin 512) (b : Fin 8) (s : Fin 2048)
    (h : 512 * T + r.val = 2048 * b.val + s.val) (hh : ∀ k, Spec.IsReal (hd m c b s k))
    (hr : ∀ k e, Spec.IsReal (rt m c k e)) (p q : Fin 8) (hpq : Routing.Top2 (lg m c b s) p q) (d : Fin 1024) :
    ∑ j : Fin 16, term m c ⟨16 * T + j.val, hT j⟩ r d
      = ∑ e : Fin 8, Routing.gate (lg m c b s) p q e
          * Spec.expert (hd m c b s) (wg m c e) (wu m c e) (fun f => wd m c e f d) := by
  refine Spec.sum_blocks (Routing.gate (lg m c b s) p q)
    (Routing.gate_real _ (Spec.logits_real _ _ hh hr) p q)
    (fun e f => Spec.act (hd m c b s) (fun k => wg m c e k f) (fun k => wu m c e k f)) (fun e f => wd m c e f d) _ ?_
  intro j he hl
  have hst : 512 * ((start ⟨16 * T + j.val, hT j⟩).val / 16) + r.val = 2048 * b.val + s.val := by
    simp only [start]; omega
  have hm : (16 * T + j.val) % 16 / 2 = j.val / 2 := by omega
  have hf : ∀ f : Fin 896, 896 * ((16 * T + j.val) % 2) + f.val = j.val % 2 * 896 + f.val := fun f => by omega
  unfold term part
  simp only [hidK_apply m c _ r b s hst]
  refine Finset.sum_congr rfl fun f _ => ?_
  have e6 : ∀ k, iblk m c 6 ⟨16 * T + j.val, hT j⟩ (ix3 0 k f) = wg m c ⟨j.val / 2, he⟩ k ⟨j.val % 2 * 896 + f.val, hl f⟩ :=
    fun k => blk6 m c _ k f ⟨j.val / 2, he⟩ ⟨j.val % 2 * 896 + f.val, hl f⟩ hm (hf f)
  have e7 : ∀ k, iblk m c 7 ⟨16 * T + j.val, hT j⟩ (ix3 0 k f) = wu m c ⟨j.val / 2, he⟩ k ⟨j.val % 2 * 896 + f.val, hl f⟩ :=
    fun k => blk7 m c _ k f ⟨j.val / 2, he⟩ ⟨j.val % 2 * 896 + f.val, hl f⟩ hm (hf f)
  have e8 : iblk m c 8 ⟨16 * T + j.val, hT j⟩ (ix3 0 f d) = wd m c ⟨j.val / 2, he⟩ ⟨j.val % 2 * 896 + f.val, hl f⟩ d :=
    blk8 m c _ d f ⟨j.val / 2, he⟩ ⟨j.val % 2 * 896 + f.val, hl f⟩ hm (hf f)
  simp only [e6, e7, e8]
  have eg : ∑ l : Fin 128, (if l.val = (16 * T + j.val) % 16 / 2 then
        gates m c (start ⟨16 * T + j.val, hT j⟩) (ix2 r l) else 0)
      = Routing.gate (lg m c b s) p q ⟨j.val / 2, he⟩ := by
    rw [hm]
    exact (Spec.sum_lane _ ⟨j.val / 2, he⟩).trans (gates_apply m c _ r b s hst hh hr p q hpq _)
  rw [eg]
  rfl

/-- The kernel's result at row `2048 * b + s` and column `d` is the layer's output there. -/
theorem value (b : Fin 8) (s : Fin 2048) (R : Fin 16384) (d : Fin 1024) (h : R.val = 2048 * b.val + s.val)
    (hh : ∀ k, Spec.IsReal (hd m c b s k)) (hr : ∀ k e, Spec.IsReal (rt m c k e))
    (p q : Fin 8) (hpq : Routing.Top2 (lg m c b s) p q) :
    Value.G9 m c (ix2 R d)
      = Spec.out (x m c b s d) (gt m c b d) (hd m c b s) (lg m c b s) p q (wg m c) (wu m c) (fun e f => wd m c e f d) := by
  have hN : cfg0.N = 512 := N_0
  have hd : d.val / 1024 = 0 := Nat.div_eq_of_lt d.isLt
  have hpt : Value.pt9Of (ix2 R d) = 16 * (R.val / 512) + 15 := by
    show 16 * (1 * (R.val / 512 - 0) + 1 * (d.val / 1024 - 0)) + 15 = _
    omega
  have hlt : Value.pt9Of (ix2 R d) < cfg0.N := by rw [hpt, hN]; omega
  have hloc : Value.loc9Of (ix2 R d) = ix2 ⟨R.val % 512, Nat.mod_lt _ (by decide)⟩ d := by
    funext a
    match a with
    | ⟨0, _⟩ => rfl
    | ⟨1, _⟩ => exact Fin.ext (Nat.mod_eq_of_lt d.isLt)
  unfold Value.G9
  rw [dif_pos hlt, ← Value.outsAt0_sweep m c _ hlt, hloc]
  have h15 : (⟨Value.pt9Of (ix2 R d), hlt⟩ : Fin cfg0.N).val % 16 = 15 := by
    show Value.pt9Of (ix2 R d) % 16 = 15
    rw [hpt]; omega
  have hdiv : Value.pt9Of (ix2 R d) / 16 = R.val / 512 := by rw [hpt]; omega
  have ho := out_C m c ⟨Value.pt9Of (ix2 R d), hlt⟩ h15
  have ha := acc_last m c ⟨Value.pt9Of (ix2 R d), hlt⟩ h15 ⟨R.val % 512, Nat.mod_lt _ (by decide)⟩ d
  rw [show (outsAt0 m c (Value.pt9Of (ix2 R d)) hlt).1 = _ from ho, pay2_apply, ha]
  have hrow : 512 * (Value.pt9Of (ix2 R d) / 16) + R.val % 512 = 2048 * b.val + s.val := by rw [hdiv]; omega
  rw [sum_term m c (Value.pt9Of (ix2 R d) / 16) _ ⟨R.val % 512, Nat.mod_lt _ (by decide)⟩ b s hrow hh hr p q hpq d, zero_add,
    blk0 m c ⟨Value.pt9Of (ix2 R d), hlt⟩ ⟨R.val % 512, Nat.mod_lt _ (by decide)⟩ d b s hrow,
    blk4 m c ⟨Value.pt9Of (ix2 R d), hlt⟩ d b ⟨5120 + d.val, by omega⟩
      (by show Value.pt9Of (ix2 R d) / 64 = b.val; rw [hpt]; omega) rfl]
  rfl

end Cert.Moe.KernelValue
-- ==== Proof.Moe.Reference.lean ====
module

public import proofs.«01_k».proof.Proof.Gen.ReferenceIdeal.Read
public import proofs.«01_k».proof.Proof.Moe.Spec
public import Idealize.ShloMosaic.Lib.Pointwise

/-! The reference's result at an index, in terms of its arguments. -/

@[expose] public section

set_option maxRecDepth 16384

noncomputable section

namespace Cert.Moe.Reference

open Idealize.ShloMosaic Idealize.ShloMosaic.TcCoe
open Cert.ReferenceIdeal Cert.ReferenceIdeal.Gen Cert.ReferenceIdeal.Read

/-- The modulated norm. -/
theorem hidden_apply (x0 : Vec Ideal S8x2048x1024 .f32) (x1 : Vec Ideal S8x6144 .f32) (x2 : Vec Ideal S1024 .f32)
    (b : Fin 8) (s : Fin 2048) (k : Fin 1024) :
    val_main_v30 (F := Ideal) x0 x1 x2 (ix3 b s k)
      = Spec.hidden (fun k => x0 (ix3 b s k)) (fun k => x1 (ix2 b ⟨4096 + k.val, by omega⟩))
          (fun k => x1 (ix2 b ⟨3072 + k.val, by omega⟩)) (fun k => x2 (ix1 k)) k := by
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v10, val_main_v9, val_main_v4, val_main_v3, val_main_cst, val_main_cst_0,
    val_main_cst_1, val_main_cst_2]
  rfl

/-- The logits. -/
theorem logits_apply (x0 : Vec Ideal S8x2048x1024 .f32) (x1 : Vec Ideal S8x6144 .f32) (x2 : Vec Ideal S1024 .f32)
    (x3 : Vec Ideal S1024x8 .f32) (b : Fin 8) (s : Fin 2048) (e : Fin 8) :
    val_main_v31 (F := Ideal) x0 x1 x2 x3 (ix3 b s e)
      = Spec.logits (fun k => val_main_v30 (F := Ideal) x0 x1 x2 (ix3 b s k)) (fun k e => x3 (ix2 k e)) e := by
  pointwise [val_main_v31]
  rfl

/-- One expert's gated output, as the reference writes it. -/
def stage (H : FVec Ideal S8x2048x1024 .f32) (G : FVec Ideal S8x2048x8 .f32) (x4 x5 : FVec Ideal S8x1024x1792 .f32)
    (x6 : FVec Ideal S8x1792x1024 .f32) (e : Nat) (hG : S8x2048x8.Slices ![0, 0, e] S8x2048x1)
    (hW : S8x1024x1792.Slices ![e, 0, 0] S1x1024x1792) (hD : S8x1792x1024.Slices ![e, 0, 0] S1x1792x1024) :
    FVec Ideal S8x2048x1024 .f32 :=
  let g := Host.dotGeneral dot_S8x2048x1024_S1024x1792_S8x2048x1792_2_0_01_1_n_n none H
    (shapeCast S1024x1792 (extractStridedSlice S1x1024x1792 ![e, 0, 0] x4 hW) shapeCasts_S1x1024x1792_S1024x1792)
  let u := Host.dotGeneral dot_S8x2048x1024_S1024x1792_S8x2048x1792_2_0_01_1_n_n none H
    (shapeCast S1024x1792 (extractStridedSlice S1x1024x1792 ![e, 0, 0] x5 hW) shapeCasts_S1x1024x1792_S1024x1792)
  mulf (broadcastInDim S8x2048x1024 ![0, 1, 2] bcast_S8x2048x1_S8x2048x1024_0_1_2 (extractStridedSlice S8x2048x1 ![0, 0, e] G hG))
    (Host.dotGeneral dot_S8x2048x1792_S1792x1024_S8x2048x1024_2_0_01_1_n_n none
      (mulf (mulf g (Host.divf (val_main_call1_v4 (F := Ideal)) (addf (val_main_call1_v2 (F := Ideal)) (Host.exp (Host.negf g))))) u)
      (shapeCast S1792x1024 (extractStridedSlice S1x1792x1024 ![e, 0, 0] x6 hD) shapeCasts_S1x1792x1024_S1792x1024))

/-- An expert's gated output at an index. -/
theorem stage_apply (H : FVec Ideal S8x2048x1024 .f32) (G : FVec Ideal S8x2048x8 .f32) (x4 x5 : FVec Ideal S8x1024x1792 .f32)
    (x6 : FVec Ideal S8x1792x1024 .f32) (e : Fin 8) (hG : S8x2048x8.Slices ![0, 0, e.val] S8x2048x1)
    (hW : S8x1024x1792.Slices ![e.val, 0, 0] S1x1024x1792) (hD : S8x1792x1024.Slices ![e.val, 0, 0] S1x1792x1024)
    (b : Fin 8) (s : Fin 2048) (d : Fin 1024) :
    stage H G x4 x5 x6 e.val hG hW hD (ix3 b s d)
      = G (ix3 b s e) * Spec.expert (fun k => H (ix3 b s k)) (fun k f => x4 (ix3 e k f)) (fun k f => x5 (ix3 e k f))
          (fun f => x6 (ix3 e f d)) := by
  pointwise [stage, val_main_call1_v4, val_main_call1_v2, val_main_call1_cst, val_main_call1_cst_0]
  rfl

/-- An index along the experts. -/
theorem along_ix3 (b : Fin 8) (s : Fin 2048) (l c : Fin 8) :
    Shape.Idx.along (s := S8x2048x8) (ix3 b s l) 2 c = ix3 b s c := by
  funext a
  match a with
  | ⟨0, _⟩ => rfl
  | ⟨1, _⟩ => rfl
  | ⟨2, _⟩ => rfl

/-- The position a token's logits are sorted to. -/
def pos (z : FVec Ideal S8x2048x8 .f32) (b : Fin 8) (s : Fin 2048) (l : Fin 8) : Fin 8 :=
  sortedFrom (fun k k' : Fin 8 => Ideal.cmpTotal .gt (z (ix3 b s k)) (z (ix3 b s k')) == 1#1) l

/-- The first two of the sorted experts. -/
theorem slice_ix3 {α : Type} (b : Fin 8) (s : Fin 2048) (k : Fin 2) (f : S8x2048x8.Idx → α) :
    extractStridedSlice S8x2048x2 (fun _ => 0) f sliceFits_S8x2048x8_S8x2048x2 (ix3 b s k) = f (ix3 b s ⟨k.val, by omega⟩) := by
  unfold extractStridedSlice
  refine congrArg f (funext fun a => ?_)
  match a with
  | ⟨0, _⟩ => exact Fin.ext (Nat.zero_add _)
  | ⟨1, _⟩ => exact Fin.ext (Nat.zero_add _)
  | ⟨2, _⟩ => exact Fin.ext (Nat.zero_add _)

/-- A token's fiber through the sort: the position each place is filled from. -/
theorem sorted_pos (z : FVec Ideal S8x2048x8 .f32) (y : IVec S8x2048x8 32) (b : Fin 8) (s : Fin 2048) (l : Fin 8) :
    (Host.sort2 S8x2048x8 2 (fun l r => FloatOps.cmpfTotal .gt l.1 r.1) z y).1 (ix3 b s l) = z (ix3 b s (pos z b s l))
    ∧ (Host.sort2 S8x2048x8 2 (fun l r => FloatOps.cmpfTotal .gt l.1 r.1) z y).2 (ix3 b s l) = y (ix3 b s (pos z b s l)) := by
  unfold Host.sort2
  rw [dif_pos (by decide : 2 < S8x2048x8.rank)]
  have e : (sortedFrom (fun k k' : Fin (S8x2048x8.size 2) => FloatOps.cmpfTotal .gt
      (z (Shape.Idx.along (s := S8x2048x8) (ix3 b s l) 2 k)) (z (Shape.Idx.along (s := S8x2048x8) (ix3 b s l) 2 k')) == 1#1) l)
        = pos z b s l := by
    unfold pos
    refine congrArg (fun R => sortedFrom R l) ?_
    funext k₁ k₂
    exact congrArg₂ (fun a b => Ideal.cmpTotal .gt (z a) (z b) == 1#1) (along_ix3 b s l k₁) (along_ix3 b s l k₂)
  constructor
  · refine congrArg z (Eq.trans ?_ (along_ix3 b s l (pos z b s l)))
    exact congrArg (Shape.Idx.along (s := S8x2048x8) (ix3 b s l) 2) e
  · refine congrArg y (Eq.trans ?_ (along_ix3 b s l (pos z b s l)))
    exact congrArg (Shape.Idx.along (s := S8x2048x8) (ix3 b s l) 2) e

/-- The two greatest logits of a token, by the sort's positions. -/
theorem values_pos (z : FVec Ideal S8x2048x8 .f32) (b : Fin 8) (s : Fin 2048) (k : Fin 2) :
    (Host.topK S8x2048x2 2 (FloatOps.cmpfTotal .gt) z sliceFits_S8x2048x8_S8x2048x2).1 (ix3 b s k)
      = z (ix3 b s (pos z b s ⟨k.val, by omega⟩)) := by
  unfold Host.topK
  dsimp only
  rw [slice_ix3, (sorted_pos z _ b s _).1]

/-- The positions of the two greatest logits of a token. -/
theorem indices_pos (z : FVec Ideal S8x2048x8 .f32) (b : Fin 8) (s : Fin 2048) (k : Fin 2) :
    (Host.topK S8x2048x2 2 (FloatOps.cmpfTotal .gt) z sliceFits_S8x2048x8_S8x2048x2).2 (ix3 b s k)
      = BitVec.ofNat 32 (pos z b s ⟨k.val, by omega⟩).val := by
  unfold Host.topK
  dsimp only
  rw [slice_ix3, (sorted_pos z _ b s _).2]
  rw [dif_pos (by decide : 2 < S8x2048x8.rank)]
  rfl

/-- The one-hot word of an expert as a number. -/
theorem onehot (p e : Fin 8) :
    (FloatOps.uitofp (F := Ideal) .f32 (IntOp.cmpi .eq (BitVec.ofNat 32 p.val) (BitVec.ofNat 32 e.val)) : Ideal .f32)
      = if p = e then (1 : EReal) else 0 := by
  have : ∀ p e : Fin 8, IntOp.cmpi .eq (BitVec.ofNat 32 p.val) (BitVec.ofNat 32 e.val) = if p = e then 1#1 else 0#1 := by decide
  rw [this]
  split_ifs <;> simp [FloatOps.uitofp]

variable (x0 : Vec Ideal S8x2048x1024 .f32) (x1 : Vec Ideal S8x6144 .f32) (x2 : Vec Ideal S1024 .f32)
  (x3 : Vec Ideal S1024x8 .f32) (x4 x5 : Vec Ideal S8x1024x1792 .f32) (x6 : Vec Ideal S8x1792x1024 .f32)

/-- A token's logits. -/
def lg (b : Fin 8) (s : Fin 2048) (e : Fin 8) : EReal := val_main_v31 (F := Ideal) x0 x1 x2 x3 (ix3 b s e)

/-- The greater of the two kept logits, subtracted before the exponential. -/
theorem max_apply (b : Fin 8) (s : Fin 2048) (k : Fin 2) :
    val_main_v36 (F := Ideal) x0 x1 x2 x3 (ix3 b s k)
      = max (val_main_values (F := Ideal) x0 x1 x2 x3 (ix3 b s 0)) (val_main_values (F := Ideal) x0 x1 x2 x3 (ix3 b s 1)) := by
  pointwise [val_main_v36, val_main_v35, val_main_v34, val_main_v33, val_main_v32, val_main_cst_3, val_main_cst_4]
  have hu : (Finset.univ : Finset (Fin 2)) = {0, 1} := by decide
  rw [Consts.negInf, hu, Finset.fold_insert (by decide), Finset.fold_singleton, max_eq_right bot_le,
    max_eq_left (bot_le : ⊥ ≤ val_main_values (F := Ideal) x0 x1 x2 x3 (ix3 b s 1))]

/-- The two largest logits. -/
theorem values_apply (b : Fin 8) (s : Fin 2048) (p q : Fin 8) (h : Routing.Top2 (lg x0 x1 x2 x3 b s) p q) :
    val_main_values (F := Ideal) x0 x1 x2 x3 (ix3 b s 0) = lg x0 x1 x2 x3 b s p
    ∧ val_main_values (F := Ideal) x0 x1 x2 x3 (ix3 b s 1) = lg x0 x1 x2 x3 b s q := by
  have ht := Routing.sortedFrom_top2 _ p q h
  exact ⟨(values_pos _ b s 0).trans (congrArg (lg x0 x1 x2 x3 b s) ht.1),
    (values_pos _ b s 1).trans (congrArg (lg x0 x1 x2 x3 b s) ht.2)⟩

/-- The two largest logits' experts. -/
theorem indices_apply (b : Fin 8) (s : Fin 2048) (p q : Fin 8) (h : Routing.Top2 (lg x0 x1 x2 x3 b s) p q) :
    val_main_indices (F := Ideal) x0 x1 x2 x3 (ix3 b s 0) = BitVec.ofNat 32 p.val
    ∧ val_main_indices (F := Ideal) x0 x1 x2 x3 (ix3 b s 1) = BitVec.ofNat 32 q.val := by
  have ht := Routing.sortedFrom_top2 _ p q h
  exact ⟨(indices_pos _ b s 0).trans (congrArg (fun e : Fin 8 => BitVec.ofNat 32 e.val) ht.1),
    (indices_pos _ b s 1).trans (congrArg (fun e : Fin 8 => BitVec.ofNat 32 e.val) ht.2)⟩

/-- The reference's dense gates are the experts' gates. -/
theorem gates_apply (b : Fin 8) (s : Fin 2048) (hz : ∀ j, Spec.IsReal (lg x0 x1 x2 x3 b s j)) (p q : Fin 8)
    (h : Routing.Top2 (lg x0 x1 x2 x3 b s) p q) (e : Fin 8) :
    val_main_v47 (F := Ideal) x0 x1 x2 x3 (ix3 b s e) = Routing.gate (lg x0 x1 x2 x3 b s) p q e := by
  pointwise [val_main_v47, val_main_v46, val_main_v45, val_main_v44, val_main_v43, val_main_call0_v4, val_main_call0_v3,
    val_main_call0_v2, val_main_call0_v1, val_main_call0_v0, val_main_v42, val_main_v41, val_main_v40, val_main_v39,
    val_main_v38, val_main_v37, val_main_cst_5, val_main_cst_6]
  obtain ⟨v0, v1⟩ := values_apply x0 x1 x2 x3 b s p q h
  obtain ⟨i0, i1⟩ := indices_apply x0 x1 x2 x3 b s p q h
  simp only [max_apply, Fin.sum_univ_two, v0, v1, i0, i1, onehot, max_eq_left (h.max q)]
  exact Routing.softmax_gate _ hz p q h e

/-- The sum over the experts, as the reference accumulates it. -/
theorem sum_stages (b : Fin 8) (s : Fin 2048) (d : Fin 1024) :
    val_main_v168 (F := Ideal) x0 x1 x2 x3 x4 x5 x6 (ix3 b s d)
      = ∑ e : Fin 8, val_main_v47 (F := Ideal) x0 x1 x2 x3 (ix3 b s e)
          * Spec.expert (fun k => val_main_v30 (F := Ideal) x0 x1 x2 (ix3 b s k)) (fun k f => x4 (ix3 e k f))
            (fun k f => x5 (ix3 e k f)) (fun f => x6 (ix3 e f d)) := by
  have h := fun (e : Fin 8) hG hW hD => stage_apply (val_main_v30 (F := Ideal) x0 x1 x2)
    (val_main_v47 (F := Ideal) x0 x1 x2 x3) x4 x5 x6 e hG hW hD b s d
  have h48 : val_main_v48 (F := Ideal) (ix3 b s d) = 0 := by pointwise [val_main_v48, val_main_cst_7]
  rw [Fin.sum_univ_eight, ← h 0 slices_S8x2048x8_S8x2048x1_0_0_0 slices_S8x1024x1792_S1x1024x1792_0_0_0 slices_S8x1792x1024_S1x1792x1024_0_0_0,
    ← h 1 slices_S8x2048x8_S8x2048x1_0_0_1 slices_S8x1024x1792_S1x1024x1792_1_0_0 slices_S8x1792x1024_S1x1792x1024_1_0_0,
    ← h 2 slices_S8x2048x8_S8x2048x1_0_0_2 slices_S8x1024x1792_S1x1024x1792_2_0_0 slices_S8x1792x1024_S1x1792x1024_2_0_0,
    ← h 3 slices_S8x2048x8_S8x2048x1_0_0_3 slices_S8x1024x1792_S1x1024x1792_3_0_0 slices_S8x1792x1024_S1x1792x1024_3_0_0,
    ← h 4 slices_S8x2048x8_S8x2048x1_0_0_4 slices_S8x1024x1792_S1x1024x1792_4_0_0 slices_S8x1792x1024_S1x1792x1024_4_0_0,
    ← h 5 slices_S8x2048x8_S8x2048x1_0_0_5 slices_S8x1024x1792_S1x1024x1792_5_0_0 slices_S8x1792x1024_S1x1792x1024_5_0_0,
    ← h 6 slices_S8x2048x8_S8x2048x1_0_0_6 slices_S8x1024x1792_S1x1024x1792_6_0_0 slices_S8x1792x1024_S1x1792x1024_6_0_0,
    ← h 7 slices_S8x2048x8_S8x2048x1_0_0_7 slices_S8x1024x1792_S1x1024x1792_7_0_0 slices_S8x1792x1024_S1x1792x1024_7_0_0,
    ← zero_add (stage _ _ _ _ _ (0 : Fin 8).val _ _ _ _), ← h48]
  rfl

/-- The reference's result at row `2048 * b + s` and column `d` is the layer's output there. -/
theorem value (b : Fin 8) (s : Fin 2048) (R : Fin 16384) (d : Fin 1024) (hR : R.val = 2048 * b.val + s.val)
    (hz : ∀ j, Spec.IsReal (lg x0 x1 x2 x3 b s j)) (p q : Fin 8) (h : Routing.Top2 (lg x0 x1 x2 x3 b s) p q) :
    val_main_v172 (F := Ideal) x0 x1 x2 x3 x4 x5 x6 (ix2 R d)
      = Spec.out (x0 (ix3 b s d)) (x1 (ix2 b ⟨5120 + d.val, by omega⟩))
          (fun k => val_main_v30 (F := Ideal) x0 x1 x2 (ix3 b s k)) (lg x0 x1 x2 x3 b s) p q
          (fun e k f => x4 (ix3 e k f)) (fun e k f => x5 (ix3 e k f)) (fun e f => x6 (ix3 e f d)) := by
  have hi : idx_main_v172 (ix2 R d) = ix3 b s d := by
    funext a
    match a with
    | ⟨0, _⟩ => exact Fin.ext (by show (R.val * 1024 + d.val) / 2097152 = b.val; omega)
    | ⟨1, _⟩ => exact Fin.ext (by show (R.val * 1024 + d.val) / 1024 % 2048 = s.val; omega)
    | ⟨2, _⟩ => exact Fin.ext (by show (R.val * 1024 + d.val) % 1024 = d.val; omega)
  have h169 : val_main_v169 (F := Ideal) x1 (ix3 b s d) = x1 (ix2 b ⟨5120 + d.val, by omega⟩) := by
    pointwise [val_main_v169, val_main_v11, val_main_v5]
  rw [val_main_v172_apply, hi, val_main_v171_apply, val_main_v170_apply, h169, sum_stages]
  simp only [gates_apply x0 x1 x2 x3 b s hz p q h]
  rfl

end Cert.Moe.Reference
-- ==== Proof.Moe.Pre.lean ====
module

public import proofs.«01_k».proof.Pre_finite
public import proofs.«01_k».proof.Proof.Moe.Spec
public import Idealize.ShloMosaic.Lib.ReduceAll
public import Idealize.ShloMosaic.Lib.Pointwise

/-! The precondition, read: the entries it names are finite. -/

@[expose] public section

set_option maxRecDepth 16384

noncomputable section

namespace Cert.Moe.Pre

open Idealize.ShloMosaic Cert.Pre_finite

/-- The side conditions of the precondition's operations. -/
instance facts : Cert.Pre_finite.Facts where
  slices_S8x6144_S8x2048_0_3072 := by decide
  bcast_S_S8x2048x1024 := by decide
  reducesTo_S8x2048x1024_S_d0_1_2 := by decide
  h_S_ := by decide
  bcast_S_S8x2048 := by decide
  reducesTo_S8x2048_S_d0_1 := by decide
  bcast_S_S1024 := by decide
  reducesTo_S1024_S_d0 := by decide
  bcast_S_S1024x8 := by decide
  reducesTo_S1024x8_S_d0_1 := by decide

/-- A scalar has one index. -/
instance : Subsingleton S_.Idx := ⟨fun i j => funext fun a => a.elim0⟩

/-- An entry whose magnitude is below infinity is finite. -/
theorem real_of_lt {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) :
    Spec.IsReal (x i) := by
  have e' : Ideal.cmp .olt (max (x i) (-(x i))) (Ideal.ofBits .f32 0x7F800000#32) = 1#1 := e
  rw [Consts.posInf] at e'
  have hlt : max (x i) (-(x i)) < ⊤ := by
    by_contra hn
    have : Ideal.cmp .olt (max (x i) (-(x i))) ⊤ = 0#1 := by
      simp [Ideal.cmp, hn]
    rw [this] at e'
    exact absurd e' (by decide)
  rw [max_lt_iff] at hlt
  have hb : x i ≠ ⊥ := fun hb => by
    rw [hb] at hlt
    exact absurd hlt.2 (by simp)
  exact ⟨(x i).toReal, (EReal.coe_toReal hlt.1.ne hb).symm⟩

/-- What the precondition says of the arguments over the extended reals. -/
theorem finite (x0 : FVec Ideal S8x2048x1024 .f32) (x1 : FVec Ideal S8x6144 .f32) (x2 : FVec Ideal S1024 .f32)
    (x3 : FVec Ideal S1024x8 .f32) (x4 x5 : FVec Ideal S8x1024x1792 .f32) (x6 : FVec Ideal S8x1792x1024 .f32)
    (h : Cert.Pre_finite.fn (F := Ideal) x0 x1 x2 x3 x4 x5 x6 = fun _ => 1#1) :
    (∀ i, Spec.IsReal (x0 i)) ∧ (∀ (b : Fin 8) (k : Fin 6144), 3072 ≤ k.val → k.val < 5120 → Spec.IsReal (x1 (ix2 b k)))
      ∧ (∀ i, Spec.IsReal (x2 i)) ∧ ∀ i, Spec.IsReal (x3 i) := by
  have h0 := congrFun h ix0
  obtain ⟨h123, hr⟩ := IntOp.andi_eq_one.1 h0
  obtain ⟨h12, hg⟩ := IntOp.andi_eq_one.1 h123
  obtain ⟨hx, hm⟩ := IntOp.andi_eq_one.1 h12
  refine ⟨fun i => real_of_lt x0 _ i (Host.reduce_andi_all _ _ _ _ ix0 hx i), fun b k hk hk' => ?_,
    fun i => real_of_lt x2 _ i (Host.reduce_andi_all _ _ _ _ ix0 hg i),
    fun i => real_of_lt x3 _ i (Host.reduce_andi_all _ _ _ _ ix0 hr i)⟩
  have hs := real_of_lt _ _ _ (Host.reduce_andi_all _ _ _ _ ix0 hm (ix2 b (⟨k.val - 3072, by omega⟩ : Fin 2048)))
  refine Eq.subst (motive := Spec.IsReal) ?_ hs
  unfold extractStridedSlice
  refine congrArg x1 (funext fun a => ?_)
  match a with
  | ⟨0, _⟩ => exact Fin.ext (Nat.zero_add _)
  | ⟨1, _⟩ => exact Fin.ext (by show 3072 + (k.val - 3072) = k.val; omega)

end Cert.Moe.Pre
-- ==== Proof.Ffn.KernelValue.lean ====
module

public import proofs.«01_k».proof.Proof.Gen.KernelFfnIdeal.Frame
public import proofs.«01_k».proof.Proof.Gen.KernelFfnIdeal.Value
public import Idealize.ShloMosaic.Lib.Pointwise
public import Idealize.ShloMosaic.Lib.ValueIdx
public import Idealize.ShloMosaic.Lib.Pipeline.ValueKit
public import Idealize.ShloMosaic.Lib.Pipeline.ValueKit.Acc
public import Idealize.ShloMosaic.Lib.Pipeline.ValueKit.Held
public import Idealize.ShloMosaic.Lib.Pipeline.ValueKit.Point
public import Idealize.ShloMosaic.Lib.Pipeline.ReadBack
public import proofs.«01_k».proof.Proof.Moe.Blocks
public import proofs.«01_k».proof.Proof.Moe.Spec

/-! The dense channel mixer's result at an index, in terms of its arguments: two points for each block of 512 rows, each
    with one half of the inner dimension. -/

@[expose] public section

set_option maxRecDepth 16384

noncomputable section

namespace Cert.Ffn.KernelValue

open Idealize.ShloMosaic Idealize.ShloMosaic.TcCoe
open Cert.KernelFfnIdeal Cert.KernelFfnIdeal.Gen Cert.Moe

/-! ## The body's arithmetic at an index -/

/-- The modulated norm of the input's row. -/
theorem pay1_apply (x : Vec Ideal S512x1024 .f32) (g : Vec Ideal S1x1024 .f32) (sc sh : Vec Ideal S1x1x1024 .f32)
    (r : Fin 512) (d : Fin 1024) :
    k0_pay1 x g sc sh (ix2 r d)
      = Spec.hidden (fun k => x (ix2 r k)) (fun k => sc (ix3 0 0 k)) (fun k => sh (ix3 0 0 k)) (fun k => g (ix2 0 k)) d := by
  pointwise [k0_pay1]
  rfl

/-- The accumulator starts at zero. -/
theorem pay2_apply (r : Fin 512) (d : Fin 1024) : (k0_pay2 (F := Ideal)) (ix2 r d) = 0 := by
  pointwise [k0_pay2]

/-- The contribution of one half of the inner dimension to a row. -/
def part (h : Fin 1024 → EReal) (wg wu : Fin 1024 → Fin 1408 → EReal) (wd : Fin 1408 → EReal) : EReal :=
  ∑ f : Fin 1408, Spec.act h (fun k => wg k f) (fun k => wu k f) * wd f

/-- The accumulation step: the accumulator plus the half's contribution. -/
theorem pay3_apply (h : Vec Ideal S512x1024 .bf16) (wg wu : Vec Ideal S1024x1408 .bf16) (acc : Vec Ideal S512x1024 .f32)
    (wd : Vec Ideal S1408x1024 .bf16) (r : Fin 512) (d : Fin 1024) :
    k0_pay3 h wg wu acc wd (ix2 r d)
      = acc (ix2 r d) + part (fun k => h (ix2 r k)) (fun k f => wg (ix2 k f)) (fun k f => wu (ix2 k f))
          (fun f => wd (ix2 f d)) := by
  pointwise [k0_pay3]
  rfl

/-- The last store: the input plus the modulated accumulator. -/
theorem pay4_apply (x : Vec Ideal S512x1024 .f32) (gt : Vec Ideal S1x1x1024 .f32) (acc : Vec Ideal S512x1024 .f32)
    (r : Fin 512) (d : Fin 1024) :
    k0_pay4 x gt acc (ix2 r d) = x (ix2 r d) + gt (ix3 0 0 d) * acc (ix2 r d) := by
  pointwise [k0_pay4]

variable (m : (ℓ : Loc nD τ sig) → Buf (Elt Ideal) ℓ) (c : Dev nD)

/-! ## The blocks by the arguments' coordinates -/

/-- A token's row of the input. -/
def x (b : Fin 8) (s : Fin 2048) (k : Fin 1024) : EReal := m (c.tc.loc main_arg0) (ix3 b s k)
/-- The six modulation vectors of a batch entry, in one row. -/
def md (b : Fin 8) (k : Fin 6144) : EReal := m (c.tc.loc main_arg1) (ix2 b k)
/-- The norm's weight. -/
def nw (k : Fin 1024) : EReal := m (c.tc.loc main_arg2) (ix1 k)
/-- The gate projection. -/
def wg (k : Fin 1024) (f : Fin 2816) : EReal := m (c.tc.loc main_arg3) (ix2 k f)
/-- The up projection. -/
def wu (k : Fin 1024) (f : Fin 2816) : EReal := m (c.tc.loc main_arg4) (ix2 k f)
/-- The down projection. -/
def wd (f : Fin 2816) (d : Fin 1024) : EReal := m (c.tc.loc main_arg5) (ix2 f d)
/-- A token's modulated norm. -/
def hd (b : Fin 8) (s : Fin 2048) : Fin 1024 → EReal :=
  Spec.hidden (x m c b s) (fun k => md m c b ⟨4096 + k.val, by omega⟩) (fun k => md m c b ⟨3072 + k.val, by omega⟩) (nw m c)

/-- The block of each window at a point: the row block is half the point, the inner half its parity. -/
theorem idx0 : ∀ t : Fin cfg0.N, win0_0.index t = ![t.val / 2, 0] := by decide +kernel
/-- The norm's weight is one block. -/
theorem idx1 : ∀ t : Fin cfg0.N, win0_1.index t = ![0, 0] := by decide +kernel
/-- The scale's block. -/
theorem idx2 : ∀ t : Fin cfg0.N, win0_2.index t = ![t.val / 8, 0, 4] := by decide +kernel
/-- The shift's block. -/
theorem idx3 : ∀ t : Fin cfg0.N, win0_3.index t = ![t.val / 8, 0, 3] := by decide +kernel
/-- The output modulation's block. -/
theorem idx4 : ∀ t : Fin cfg0.N, win0_4.index t = ![t.val / 8, 0, 5] := by decide +kernel
/-- The gate projection's block. -/
theorem idx5 : ∀ t : Fin cfg0.N, win0_5.index t = ![0, t.val % 2] := by decide +kernel
/-- The up projection's block. -/
theorem idx6 : ∀ t : Fin cfg0.N, win0_6.index t = ![0, t.val % 2] := by decide +kernel
/-- The down projection's block. -/
theorem idx7 : ∀ t : Fin cfg0.N, win0_7.index t = ![t.val % 2, 0] := by decide +kernel

/-- The activations as the launch finds them, at a row. -/
theorem arr0 (R : Fin 16384) (d : Fin 1024) (b : Fin 8) (s : Fin 2048) (h : R.val = 2048 * b.val + s.val) :
    V m c main_v0 (ix2 R d) = x m c b s d :=
  Blocks.flat_apply (m (c.tc.loc main_arg0)) R d b s h

/-- The modulation as the launch finds it, at an index. -/
theorem arr1 (b : Fin 8) (k : Fin 6144) : V m c main_v1 (ix3 b 0 k) = md m c b k :=
  Blocks.unit_apply (m (c.tc.loc main_arg1)) b k

/-- The norm's weight as the launch finds it. -/
theorem arr2 (d : Fin 1024) : V m c main_v2 (ix2 0 d) = nw m c d := by
  have h : V m c main_v2 = shapeCast S1x1024 (m (c.tc.loc main_arg2)) shapeCasts_S1024_S1x1024 := rfl
  rw [h]
  unfold nw
  pointwise

/-- The row block at a point. -/
theorem blk0 (t : Fin cfg0.N) (r : Fin 512) (d : Fin 1024) (b : Fin 8) (s : Fin 2048)
    (h : 512 * (t.val / 2) + r.val = 2048 * b.val + s.val) : iblk m c 0 t (ix2 r d) = x m c b s d := by
  refine Eq.trans ?_ (arr0 m c ⟨2048 * b.val + s.val, by omega⟩ d b s rfl)
  blk_ext [iblk, idx0 t]

/-- The norm's weight at a point. -/
theorem blk1 (t : Fin cfg0.N) (d : Fin 1024) : iblk m c 1 t (ix2 0 d) = nw m c d := by
  refine Eq.trans ?_ (arr2 m c d)
  blk_ext [iblk, idx1 t]

/-- The scale at a point. -/
theorem blk2 (t : Fin cfg0.N) (d : Fin 1024) (b : Fin 8) (k : Fin 6144) (h : t.val / 8 = b.val)
    (hk : k.val = 4096 + d.val) : iblk m c 2 t (ix3 0 0 d) = md m c b k := by
  refine Eq.trans ?_ (arr1 m c b k)
  blk_ext [iblk, idx2 t]

/-- The shift at a point. -/
theorem blk3 (t : Fin cfg0.N) (d : Fin 1024) (b : Fin 8) (k : Fin 6144) (h : t.val / 8 = b.val)
    (hk : k.val = 3072 + d.val) : iblk m c 3 t (ix3 0 0 d) = md m c b k := by
  refine Eq.trans ?_ (arr1 m c b k)
  blk_ext [iblk, idx3 t]

/-- The output modulation at a point. -/
theorem blk4 (t : Fin cfg0.N) (d : Fin 1024) (b : Fin 8) (k : Fin 6144) (h : t.val / 8 = b.val)
    (hk : k.val = 5120 + d.val) : iblk m c 4 t (ix3 0 0 d) = md m c b k := by
  refine Eq.trans ?_ (arr1 m c b k)
  blk_ext [iblk, idx4 t]

/-- The gate projection's half at a point. -/
theorem blk5 (t : Fin cfg0.N) (k : Fin 1024) (f : Fin 1408) (F : Fin 2816) (hf : 1408 * (t.val % 2) + f.val = F.val) :
    iblk m c 5 t (ix2 k f) = wg m c k F := by
  unfold wg
  blk_ext! [iblk, V, idx5 t]

/-- The up projection's half at a point. -/
theorem blk6 (t : Fin cfg0.N) (k : Fin 1024) (f : Fin 1408) (F : Fin 2816) (hf : 1408 * (t.val % 2) + f.val = F.val) :
    iblk m c 6 t (ix2 k f) = wu m c k F := by
  unfold wu
  blk_ext! [iblk, V, idx6 t]

/-- The down projection's half at a point. -/
theorem blk7 (t : Fin cfg0.N) (d : Fin 1024) (f : Fin 1408) (F : Fin 2816) (hf : 1408 * (t.val % 2) + f.val = F.val) :
    iblk m c 7 t (ix2 f d) = wd m c F d := by
  unfold wd
  blk_ext! [iblk, V, idx7 t]

/-! ## The scratch from point to point -/

/-- The modulated norm of the row block at a point. -/
def hid (t : Fin cfg0.N) : Vec Ideal S512x1024 .bf16 :=
  k0_pay1 (iblk m c 0 t) (iblk m c 1 t) (iblk m c 2 t) (iblk m c 3 t)

/-- The accumulator after a point's step over the values read before it. -/
def step (t : Fin cfg0.N) (h : Vec Ideal S512x1024 .bf16) (acc : Vec Ideal S512x1024 .f32) : Vec Ideal S512x1024 .f32 :=
  k0_pay3 h (iblk m c 5 t) (iblk m c 6 t) acc (iblk m c 7 t)

/-- A row block's first point keeps its norm and starts the accumulator. -/
theorem first (t : Fin cfg0.N) (h0 : t.val % 2 = 0) :
    (outsAt0 m c t.val t.isLt).2.1 = hid m c t
    ∧ (outsAt0 m c t.val t.isLt).2.2 = step m c t (hid m c t) (k0_pay2 (F := Ideal)) := by
  rw [outsAt0_A m c t h0 (by omega)]
  constructor
  · frame_out
    rfl
  · frame_out
    rfl

/-- A row block's second point adds to the accumulator and writes the input plus the modulated accumulator. -/
theorem second (t : Fin cfg0.N) (h1 : t.val % 2 = 1) :
    (outsAt0 m c t.val t.isLt).1 = k0_pay4 (iblk m c 0 t) (iblk m c 4 t)
      (step m c t (outsAt0 m c (t.val - 1) (Nat.lt_of_le_of_lt (Nat.sub_le _ _) t.isLt)).2.1
        (outsAt0 m c (t.val - 1) (Nat.lt_of_le_of_lt (Nat.sub_le _ _) t.isLt)).2.2) := by
  rw [outsAt0_B m c t (by omega) h1]
  frame_out
  simp only [read_unread_whole]
  rfl

/-- The kept norm at an index: the token's modulated norm. -/
theorem hid_apply (t : Fin cfg0.N) (r : Fin 512) (b : Fin 8) (s : Fin 2048)
    (h : 512 * (t.val / 2) + r.val = 2048 * b.val + s.val) (k : Fin 1024) : hid m c t (ix2 r k) = hd m c b s k := by
  have hb : t.val / 8 = b.val := by omega
  unfold hid
  rw [pay1_apply]
  simp only [blk0 m c t r _ b s h, blk1 m c t, fun k => blk2 m c t k b ⟨4096 + k.val, by omega⟩ hb rfl,
    fun k => blk3 m c t k b ⟨3072 + k.val, by omega⟩ hb rfl]
  rfl

/-- A half's contribution in terms of the arguments. -/
theorem part_eq (t : Fin cfg0.N) (h : Fin 1024 → EReal) (d : Fin 1024) (s : Fin 2) (hs : t.val % 2 = s.val)
    (hl : ∀ f : Fin 1408, s.val * 1408 + f.val < 2816) :
    part h (fun k f => iblk m c 5 t (ix2 k f)) (fun k f => iblk m c 6 t (ix2 k f)) (fun f => iblk m c 7 t (ix2 f d))
      = ∑ f : Fin 1408, Spec.act h (fun k => wg m c k ⟨s.val * 1408 + f.val, hl f⟩) (fun k => wu m c k ⟨s.val * 1408 + f.val, hl f⟩)
          * wd m c ⟨s.val * 1408 + f.val, hl f⟩ d := by
  unfold part
  refine Finset.sum_congr rfl fun f _ => ?_
  have hf : 1408 * (t.val % 2) + f.val = s.val * 1408 + f.val := by omega
  simp only [blk7 m c t d f ⟨s.val * 1408 + f.val, hl f⟩ hf, fun k => blk5 m c t k f ⟨s.val * 1408 + f.val, hl f⟩ hf, fun k => blk6 m c t k f ⟨s.val * 1408 + f.val, hl f⟩ hf]

/-- The two halves of the inner dimension are the whole. -/
theorem halves (g : Fin 2816 → EReal) (hl : ∀ (s : Fin 2) (f : Fin 1408), s.val * 1408 + f.val < 2816) :
    (∑ f : Fin 1408, g ⟨(0 : Fin 2).val * 1408 + f.val, hl 0 f⟩) + (∑ f : Fin 1408, g ⟨(1 : Fin 2).val * 1408 + f.val, hl 1 f⟩)
      = ∑ f : Fin 2816, g f := by
  rw [← Fin.sum_univ_two (f := fun s : Fin 2 => ∑ f : Fin 1408, g ⟨s.val * 1408 + f.val, hl s f⟩)]
  refine (Fin.sum_points_lanes_congr (A := 1) (L := 2816) 2 (g := fun _ l => g l) fun t k ha hl => ?_).trans (Fin.sum_univ_one _)
  exact congrArg g (Fin.ext (by show t.val * 1408 + k.val = t.val % 2 * 1408 + k.val; omega))

/-- What a row block's second point writes, at an index. -/
theorem block (n : Nat) (h1 : 2 * n + 1 < cfg0.N) (h0 : 2 * n < cfg0.N) (r : Fin 512) (d : Fin 1024) (b : Fin 8) (s : Fin 2048)
    (h : 512 * n + r.val = 2048 * b.val + s.val) :
    (outsAt0 m c (2 * n + 1) h1).1 (ix2 r d)
      = x m c b s d + md m c b ⟨5120 + d.val, by omega⟩
          * ∑ f : Fin 2816, Spec.act (hd m c b s) (fun k => wg m c k f) (fun k => wu m c k f) * wd m c f d := by
  have e1 : (outsAt0 m c (2 * n + 1) h1).1 = k0_pay4 (iblk m c 0 ⟨2 * n + 1, h1⟩) (iblk m c 4 ⟨2 * n + 1, h1⟩)
      (step m c ⟨2 * n + 1, h1⟩ (outsAt0 m c (2 * n) h0).2.1 (outsAt0 m c (2 * n) h0).2.2) :=
    second m c ⟨2 * n + 1, h1⟩ (by show (2 * n + 1) % 2 = 1; omega)
  have e0 : (outsAt0 m c (2 * n) h0).2.1 = hid m c ⟨2 * n, h0⟩
      ∧ (outsAt0 m c (2 * n) h0).2.2 = step m c ⟨2 * n, h0⟩ (hid m c ⟨2 * n, h0⟩) (k0_pay2 (F := Ideal)) :=
    first m c ⟨2 * n, h0⟩ (by show 2 * n % 2 = 0; omega)
  have hl : ∀ (s : Fin 2) (f : Fin 1408), s.val * 1408 + f.val < 2816 := fun s f => by omega
  have hr1 : 512 * ((2 * n + 1) / 2) + r.val = 2048 * b.val + s.val := by omega
  have hr0 : 512 * (2 * n / 2) + r.val = 2048 * b.val + s.val := by omega
  have hh : (fun k => hid m c ⟨2 * n, h0⟩ (ix2 r k)) = hd m c b s :=
    funext fun k => hid_apply m c ⟨2 * n, h0⟩ r b s hr0 k
  rw [e1, e0.1, e0.2, pay4_apply, blk0 m c ⟨2 * n + 1, h1⟩ r d b s hr1,
    blk4 m c ⟨2 * n + 1, h1⟩ d b ⟨5120 + d.val, by omega⟩ (by show (2 * n + 1) / 8 = b.val; omega) rfl]
  unfold step
  rw [pay3_apply, pay3_apply, pay2_apply, zero_add, hh,
    part_eq m c ⟨2 * n, h0⟩ _ d 0 (by show 2 * n % 2 = 0; omega) (hl 0),
    part_eq m c ⟨2 * n + 1, h1⟩ _ d 1 (by show (2 * n + 1) % 2 = 1; omega) (hl 1)]
  exact congrArg (fun z : EReal => x m c b s d + md m c b ⟨5120 + d.val, by omega⟩ * z)
    (halves (fun f => Spec.act (hd m c b s) (fun k => wg m c k f) (fun k => wu m c k f) * wd m c f d) hl)

/-- The mixer's result at row `2048 * b + s` and column `d`. -/
theorem value (b : Fin 8) (s : Fin 2048) (R : Fin 16384) (d : Fin 1024) (h : R.val = 2048 * b.val + s.val) :
    Value.G8 m c (ix2 R d)
      = x m c b s d + md m c b ⟨5120 + d.val, by omega⟩
          * ∑ f : Fin 2816, Spec.act (hd m c b s) (fun k => wg m c k f) (fun k => wu m c k f) * wd m c f d := by
  have hN : cfg0.N = 64 := N_0
  have hd0 : d.val / 1024 = 0 := Nat.div_eq_of_lt d.isLt
  have hpt : Value.pt8Of (ix2 R d) = 2 * (R.val / 512) + 1 := by
    show 2 * (1 * (R.val / 512 - 0) + 1 * (d.val / 1024 - 0)) + 1 = _
    omega
  have hlt : Value.pt8Of (ix2 R d) < cfg0.N := by rw [hpt, hN]; omega
  have hloc : Value.loc8Of (ix2 R d) = ix2 ⟨R.val % 512, Nat.mod_lt _ (by decide)⟩ d := by
    funext a
    match a with
    | ⟨0, _⟩ => rfl
    | ⟨1, _⟩ => exact Fin.ext (Nat.mod_eq_of_lt d.isLt)
  unfold Value.G8
  rw [dif_pos hlt, ← Value.outsAt0_sweep m c _ hlt, hloc]
  revert hlt
  rw [hpt]
  intro hlt
  exact block m c (R.val / 512) hlt (by omega) _ d b s (by show 512 * (R.val / 512) + R.val % 512 = _; omega)

end Cert.Ffn.KernelValue
-- ==== Proof.Ffn.Reference.lean ====
module

public import proofs.«01_k».proof.Proof.Gen.ReferenceFfnIdeal.Read
public import proofs.«01_k».proof.Proof.Moe.Spec
public import proofs.«01_k».proof.Proof.Moe.Blocks
public import Idealize.ShloMosaic.Lib.Pointwise

/-! The dense channel mixer's reference at an index, in terms of its arguments. -/

@[expose] public section

set_option maxRecDepth 16384

noncomputable section

namespace Cert.Ffn.Reference

open Idealize.ShloMosaic Idealize.ShloMosaic.TcCoe
open Cert.ReferenceFfnIdeal Cert.ReferenceFfnIdeal.Gen Cert.ReferenceFfnIdeal.Read Cert.Moe

/-- The modulated norm. -/
theorem hidden_apply (x0 : Vec Ideal S8x2048x1024 .f32) (x1 : Vec Ideal S8x6144 .f32) (x2 : Vec Ideal S1024 .f32)
    (b : Fin 8) (s : Fin 2048) (k : Fin 1024) :
    val_main_v30 (F := Ideal) x0 x1 x2 (ix3 b s k)
      = Spec.hidden (fun k => x0 (ix3 b s k)) (fun k => x1 (ix2 b ⟨4096 + k.val, by omega⟩))
          (fun k => x1 (ix2 b ⟨3072 + k.val, by omega⟩)) (fun k => x2 (ix1 k)) k := by
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v10, val_main_v9, val_main_v4, val_main_v3, val_main_cst, val_main_cst_0,
    val_main_cst_1, val_main_cst_2]
  rfl

/-- The inner activation. -/
theorem act_apply (x0 : Vec Ideal S8x2048x1024 .f32) (x1 : Vec Ideal S8x6144 .f32) (x2 : Vec Ideal S1024 .f32)
    (x3 x4 : Vec Ideal S1024x2816 .f32) (b : Fin 8) (s : Fin 2048) (f : Fin 2816) :
    val_main_v34 (F := Ideal) x0 x1 x2 x3 x4 (ix3 b s f)
      = Spec.act (fun k => val_main_v30 (F := Ideal) x0 x1 x2 (ix3 b s k)) (fun k => x3 (ix2 k f)) (fun k => x4 (ix2 k f)) := by
  pointwise [val_main_v34, val_main_v33, val_main_v32, val_main_v31, val_main_call0_v5, val_main_call0_v4, val_main_call0_v3,
    val_main_call0_v2, val_main_call0_v1, val_main_call0_v0, val_main_call0_cst, val_main_call0_cst_0]
  rfl

/-- The reference's result at row `2048 * b + s` and column `d`. -/
theorem value (x0 : Vec Ideal S8x2048x1024 .f32) (x1 : Vec Ideal S8x6144 .f32) (x2 : Vec Ideal S1024 .f32)
    (x3 x4 : Vec Ideal S1024x2816 .f32) (x5 : Vec Ideal S2816x1024 .f32)
    (b : Fin 8) (s : Fin 2048) (R : Fin 16384) (d : Fin 1024) (h : R.val = 2048 * b.val + s.val) :
    val_main_v39 (F := Ideal) x0 x1 x2 x3 x4 x5 (ix2 R d)
      = x0 (ix3 b s d) + x1 (ix2 b ⟨5120 + d.val, by omega⟩)
          * ∑ f : Fin 2816, Spec.act (fun k => val_main_v30 (F := Ideal) x0 x1 x2 (ix3 b s k)) (fun k => x3 (ix2 k f))
              (fun k => x4 (ix2 k f)) * x5 (ix2 f d) := by
  refine (Blocks.flat_apply (val_main_v38 (F := Ideal) x0 x1 x2 x3 x4 x5) R d b s h).trans ?_
  pointwise [val_main_v38, val_main_v37, val_main_v36, val_main_v35, val_main_v11, val_main_v5]
  simp only [act_apply]

end Cert.Ffn.Reference
-- ==== Proof.Ffn.Equal.lean ====
module

public import proofs.«01_k».proof.Defs
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Ffn.KernelValue
public import proofs.«01_k».proof.Proof.Ffn.Reference
public import Idealize.ShloMosaic.Adequacy
public import Idealize.ShloMosaic.Init

/-! The dense channel mixer: the claims about its reference and its value. -/

@[expose] public section

noncomputable section

namespace Cert.Ffn

open Idealize.ShloMosaic Idealize.ShloMosaic.TcCoe Idealize.SL.Sem

/-- The reference runs, its arguments end unchanged, and it declares no semaphore. -/
theorem frame_reference : Cert.quiescent_ReferenceFfnIdeal :=
  fun m ρ _ => (θ_run Cert.ReferenceFfnIdeal.defs _ _).mono (fun r h => ⟨fun c => (h c).2, sem_eq_zero_of_no_sems (by decide) r.2⟩)
    (Cert.ReferenceFfnIdeal.Value.run (F := Ideal) m ρ)

/-- The kernel's result and the reference's are equal over the extended reals. -/
theorem algebraic : Cert.algebraic_KernelFfnIdeal_ReferenceFfnIdeal := by
  intro m ρ m' ρ' _ hagree
  refine ⟨fun c => Cert.KernelFfnIdeal.Value.G8 m c, Cert.KernelFfnIdeal.Value.run (F := Ideal) m ρ, ?_⟩
  refine (θ_run Cert.ReferenceFfnIdeal.defs _ _).mono (fun r h c => ⟨(h c).1.trans ?_, (h c).2⟩)
    (Cert.ReferenceFfnIdeal.Value.run (F := Ideal) m' ρ')
  obtain ⟨a0, a1, a2, a3, a4, a5⟩ := hagree c
  refine (Cert.ReferenceFfnIdeal.Read.val_main_v39_eq (F := Ideal) m' c).trans ?_
  show Cert.ReferenceFfnIdeal.Read.val_main_v39 (F := Ideal)
    (m' ((c.tc : Thread Cert.ReferenceFfnIdeal.nD Cert.ReferenceFfnIdeal.τ).loc Cert.ReferenceFfnIdeal.main_arg0))
    (m' ((c.tc : Thread Cert.ReferenceFfnIdeal.nD Cert.ReferenceFfnIdeal.τ).loc Cert.ReferenceFfnIdeal.main_arg1))
    (m' ((c.tc : Thread Cert.ReferenceFfnIdeal.nD Cert.ReferenceFfnIdeal.τ).loc Cert.ReferenceFfnIdeal.main_arg2))
    (m' ((c.tc : Thread Cert.ReferenceFfnIdeal.nD Cert.ReferenceFfnIdeal.τ).loc Cert.ReferenceFfnIdeal.main_arg3))
    (m' ((c.tc : Thread Cert.ReferenceFfnIdeal.nD Cert.ReferenceFfnIdeal.τ).loc Cert.ReferenceFfnIdeal.main_arg4))
    (m' ((c.tc : Thread Cert.ReferenceFfnIdeal.nD Cert.ReferenceFfnIdeal.τ).loc Cert.ReferenceFfnIdeal.main_arg5)) = _
  rw [a0, a1, a2, a3, a4, a5]
  funext i
  obtain ⟨R, d, rfl⟩ : ∃ (R : Fin 16384) (d : Fin 1024), i = ix2 R d :=
    ⟨i 0, i 1, funext fun a => match a with | ⟨0, _⟩ => rfl | ⟨1, _⟩ => rfl⟩
  have hR : R.val = 2048 * (⟨R.val / 2048, by omega⟩ : Fin 8).val + (⟨R.val % 2048, Nat.mod_lt _ (by decide)⟩ : Fin 2048).val := by
    show R.val = 2048 * (R.val / 2048) + R.val % 2048; omega
  refine (Cert.Ffn.Reference.value _ _ _ _ _ _ _ _ R d hR).trans (Eq.trans ?_ (Cert.Ffn.KernelValue.value m c _ _ R d hR).symm)
  simp only [Cert.Ffn.Reference.hidden_apply]
  rfl

end Cert.Ffn

end
-- ==== Proof.In.Columns.lean ====
module

public import Idealize.ShloMosaic.Lib.Pointwise

/-! The column order of the mixers' input projection. -/

@[expose] public section

noncomputable section

namespace Cert.In

/-- The projection's column that the mixers read at a place: the convolved channels, the gate, the three attention inputs,
    the second gate, the delta rule's channels, the narrow pieces, and nothing past them. -/
def col (n : Fin 3456) : Option (Fin 3344) :=
  if h : n.val < 512 then some ⟨256 + n.val, by omega⟩
  else if h : n.val - 512 < 256 then some ⟨n.val - 512, by omega⟩
  else if h : n.val - 512 - 256 < 768 then some ⟨772 + (n.val - 512 - 256), by omega⟩
  else if h : n.val - 512 - 256 - 768 < 768 then some ⟨1544 + (n.val - 512 - 256 - 768), by omega⟩
  else if h : n.val - 512 - 256 - 768 - 768 < 256 then some ⟨2320 + (n.val - 512 - 256 - 768 - 768), by omega⟩
  else if h : n.val - 512 - 256 - 768 - 768 - 256 < 768 then some ⟨2576 + (n.val - 512 - 256 - 768 - 768 - 256), by omega⟩
  else if h : n.val - 512 - 256 - 768 - 768 - 256 - 768 < 4 then some ⟨768 + (n.val - 512 - 256 - 768 - 768 - 256 - 768), by omega⟩
  else if h : n.val - 512 - 256 - 768 - 768 - 256 - 768 - 4 < 4 then
    some ⟨1540 + (n.val - 512 - 256 - 768 - 768 - 256 - 768 - 4), by omega⟩
  else if h : n.val - 512 - 256 - 768 - 768 - 256 - 768 - 4 - 4 < 8 then
    some ⟨2312 + (n.val - 512 - 256 - 768 - 768 - 256 - 768 - 4 - 4), by omega⟩
  else none

/-- A row in the mixers' order, zero where they read nothing. -/
def placed (y : Fin 3344 → EReal) (n : Fin 3456) : EReal := (col n).elim 0 y

/-- One step down a ladder of places: equal at the place, equal past it. -/
theorem placed_step {P : Prop} [Decidable P] {o : P → Option (Fin 3344)} {O : Option (Fin 3344)} {y : Fin 3344 → EReal}
    {A : P → EReal} {B : EReal} (hA : ∀ h, A h = (o h).elim 0 y) (hB : B = O.elim 0 y) :
    (dite P A fun _ => B) = (dite P o fun _ => O).elim 0 y := by
  by_cases h : P
  · rw [dif_pos h, dif_pos h, hA]
  · rw [dif_neg h, dif_neg h, hB]

/-- A product with placed columns is the placed product. -/
theorem sum_placed (h : Fin 1024 → EReal) (W : Fin 1024 → Fin 3344 → EReal) (n : Fin 3456) :
    ∑ k : Fin 1024, h k * placed (W k) n = placed (fun j => ∑ k : Fin 1024, h k * W k j) n := by
  unfold placed
  cases col n with
  | none => simp only [Option.elim_none, mul_zero, Finset.sum_const_zero]
  | some j => rfl

end Cert.In
-- ==== Proof.In.KernelValue.lean ====
module

public import proofs.«01_k».proof.Proof.Gen.KernelInIdeal.Frame
public import proofs.«01_k».proof.Proof.Gen.KernelInIdeal.Value
public import Idealize.ShloMosaic.Lib.Pointwise
public import Idealize.ShloMosaic.Lib.ValueIdx
public import Idealize.ShloMosaic.Lib.Pipeline.ValueKit
public import Idealize.ShloMosaic.Lib.Pipeline.ValueKit.Held
public import Idealize.ShloMosaic.Lib.Pipeline.ValueKit.Point
public import Idealize.ShloMosaic.Lib.Pipeline.ReadBack
public import proofs.«01_k».proof.Proof.Moe.Blocks
public import proofs.«01_k».proof.Proof.Moe.Spec
public import proofs.«01_k».proof.Proof.In.Columns

/-! The input projection's result at an index, in terms of its arguments: three points for each block of 512 rows, each with
    one third of the columns; the first keeps the rows' modulated norm for the others. -/

@[expose] public section

set_option maxRecDepth 16384

noncomputable section

namespace Cert.In.KernelValue

open Idealize.ShloMosaic Idealize.ShloMosaic.TcCoe
open Cert.KernelInIdeal Cert.KernelInIdeal.Gen Cert.Moe

/-! ## The body's arithmetic at an index -/

/-- The modulated norm of the input's row. -/
theorem pay1_apply (x : Vec Ideal S512x1024 .f32) (g : Vec Ideal S1x1024 .f32) (sc sh : Vec Ideal S1x1x1024 .f32)
    (r : Fin 512) (d : Fin 1024) :
    k0_pay1 x g sc sh (ix2 r d)
      = Spec.hidden (fun k => x (ix2 r k)) (fun k => sc (ix3 0 0 k)) (fun k => sh (ix3 0 0 k)) (fun k => g (ix2 0 k)) d := by
  pointwise [k0_pay1]
  rfl

/-- The product with a block of the projection. -/
theorem pay2_apply (h : Vec Ideal S512x1024 .bf16) (w : Vec Ideal S1024x1152 .bf16) (r : Fin 512) (n : Fin 1152) :
    k0_pay2 h w (ix2 r n) = ∑ k : Fin 1024, h (ix2 r k) * w (ix2 k n) := by
  pointwise [k0_pay2]

variable (m : (ℓ : Loc nD τ sig) → Buf (Elt Ideal) ℓ) (c : Dev nD)

/-! ## The blocks by the arguments' coordinates -/

/-- A token's row of the input. -/
def x (b : Fin 8) (s : Fin 2048) (k : Fin 1024) : EReal := m (c.tc.loc main_arg0) (ix3 b s k)
/-- The six modulation vectors of a batch entry, in one row. -/
def md (b : Fin 8) (k : Fin 6144) : EReal := m (c.tc.loc main_arg1) (ix2 b k)
/-- The norm's weight. -/
def nw (k : Fin 1024) : EReal := m (c.tc.loc main_arg2) (ix1 k)
/-- The projection. -/
def w (k : Fin 1024) (j : Fin 3344) : EReal := m (c.tc.loc main_arg3) (ix2 k j)
/-- A token's modulated norm. -/
def hd (b : Fin 8) (s : Fin 2048) : Fin 1024 → EReal :=
  Spec.hidden (x m c b s) (fun k => md m c b ⟨1024 + k.val, by omega⟩) (fun k => md m c b ⟨k.val, by omega⟩) (nw m c)

/-- The block of each window at a point: the row block is a third of the point, the column block the remainder. -/
theorem idx0 : ∀ t : Fin cfg0.N, win0_0.index t = ![t.val / 3, 0] := by decide +kernel
/-- The norm's weight is one block. -/
theorem idx1 : ∀ t : Fin cfg0.N, win0_1.index t = ![0, 0] := by decide +kernel
/-- The scale's block. -/
theorem idx2 : ∀ t : Fin cfg0.N, win0_2.index t = ![t.val / 12, 0, 1] := by decide +kernel
/-- The shift's block. -/
theorem idx3 : ∀ t : Fin cfg0.N, win0_3.index t = ![t.val / 12, 0, 0] := by decide +kernel
/-- The projection's block. -/
theorem idx4 : ∀ t : Fin cfg0.N, win0_4.index t = ![0, t.val % 3] := by decide +kernel

/-- The activations as the launch finds them, at a row. -/
theorem arr0 (R : Fin 16384) (d : Fin 1024) (b : Fin 8) (s : Fin 2048) (h : R.val = 2048 * b.val + s.val) :
    V m c main_v0 (ix2 R d) = x m c b s d :=
  Blocks.flat_apply (m (c.tc.loc main_arg0)) R d b s h

/-- The modulation as the launch finds it, at an index. -/
theorem arr1 (b : Fin 8) (k : Fin 6144) : V m c main_v1 (ix3 b 0 k) = md m c b k :=
  Blocks.unit_apply (m (c.tc.loc main_arg1)) b k

/-- The norm's weight as the launch finds it. -/
theorem arr2 (d : Fin 1024) : V m c main_v2 (ix2 0 d) = nw m c d := by
  have h : V m c main_v2 = shapeCast S1x1024 (m (c.tc.loc main_arg2)) shapeCasts_S1024_S1x1024 := rfl
  rw [h]
  unfold nw
  pointwise

/-- The projection as the launch finds it: pieces of the argument side by side, and zeros. -/
theorem V14 : V m c main_v14
    = truncf (F := Ideal) .bf16 (concatenate S1024x3456 1
        [⟨S1024x512, extractStridedSlice S1024x512 ![0, 256] (m (c.tc.loc main_arg3)) slices_S1024x3344_S1024x512_0_256⟩,
          ⟨S1024x256, extractStridedSlice S1024x256 ![0, 0] (m (c.tc.loc main_arg3)) slices_S1024x3344_S1024x256_0_0⟩,
          ⟨S1024x768, extractStridedSlice S1024x768 ![0, 772] (m (c.tc.loc main_arg3)) slices_S1024x3344_S1024x768_0_772⟩,
          ⟨S1024x768, extractStridedSlice S1024x768 ![0, 1544] (m (c.tc.loc main_arg3)) slices_S1024x3344_S1024x768_0_1544⟩,
          ⟨S1024x256, extractStridedSlice S1024x256 ![0, 2320] (m (c.tc.loc main_arg3)) slices_S1024x3344_S1024x256_0_2320⟩,
          ⟨S1024x768, extractStridedSlice S1024x768 ![0, 2576] (m (c.tc.loc main_arg3)) slices_S1024x3344_S1024x768_0_2576⟩,
          ⟨S1024x4, extractStridedSlice S1024x4 ![0, 768] (m (c.tc.loc main_arg3)) slices_S1024x3344_S1024x4_0_768⟩,
          ⟨S1024x4, extractStridedSlice S1024x4 ![0, 1540] (m (c.tc.loc main_arg3)) slices_S1024x3344_S1024x4_0_1540⟩,
          ⟨S1024x8, extractStridedSlice S1024x8 ![0, 2312] (m (c.tc.loc main_arg3)) slices_S1024x3344_S1024x8_0_2312⟩,
          ⟨S1024x112, broadcastInDim S1024x112 ![] bcast_S_S1024x112 (constant (F := Ideal) S_ .f32 0x00000000#32)⟩]
        concatenates_S1024x512_S1024x256_S1024x768_S1024x768_S1024x256_S1024x768_S1024x4_S1024x4_S1024x8_S1024x112_S1024x3456_d1)
        bitsLt_bf16_f32 := rfl

/-- The projection as the launch finds it, at an index: its columns in the mixers' order. -/
theorem arr4 (k : Fin 1024) (n : Fin 3456) : V m c main_v14 (ix2 k n) = placed (w m c k) n := by
  rw [V14]
  pointwise
  unfold placed col
  iterate 9 refine placed_step (fun _ => rfl) ?_
  rfl

/-- The row block at a point. -/
theorem blk0 (t : Fin cfg0.N) (r : Fin 512) (d : Fin 1024) (b : Fin 8) (s : Fin 2048)
    (h : 512 * (t.val / 3) + r.val = 2048 * b.val + s.val) : iblk m c 0 t (ix2 r d) = x m c b s d := by
  refine Eq.trans ?_ (arr0 m c ⟨2048 * b.val + s.val, by omega⟩ d b s rfl)
  blk_ext [iblk, idx0 t]

/-- The norm's weight at a point. -/
theorem blk1 (t : Fin cfg0.N) (d : Fin 1024) : iblk m c 1 t (ix2 0 d) = nw m c d := by
  refine Eq.trans ?_ (arr2 m c d)
  blk_ext [iblk, idx1 t]

/-- The scale at a point. -/
theorem blk2 (t : Fin cfg0.N) (d : Fin 1024) (b : Fin 8) (k : Fin 6144) (h : t.val / 12 = b.val)
    (hk : k.val = 1024 + d.val) : iblk m c 2 t (ix3 0 0 d) = md m c b k := by
  refine Eq.trans ?_ (arr1 m c b k)
  blk_ext [iblk, idx2 t]

/-- The shift at a point. -/
theorem blk3 (t : Fin cfg0.N) (d : Fin 1024) (b : Fin 8) (k : Fin 6144) (h : t.val / 12 = b.val)
    (hk : k.val = d.val) : iblk m c 3 t (ix3 0 0 d) = md m c b k := by
  refine Eq.trans ?_ (arr1 m c b k)
  blk_ext [iblk, idx3 t]

/-- The projection's columns at a point. -/
theorem blk4 (t : Fin cfg0.N) (k : Fin 1024) (j : Fin 1152) (n : Fin 3456) (hn : 1152 * (t.val % 3) + j.val = n.val) :
    iblk m c 4 t (ix2 k j) = placed (w m c k) n := by
  refine Eq.trans ?_ (arr4 m c k n)
  blk_ext [iblk, idx4 t]

/-! ## The kept norm from point to point -/

/-- The modulated norm of the row block at a point. -/
def hid (t : Fin cfg0.N) : Vec Ideal S512x1024 .bf16 :=
  k0_pay1 (iblk m c 0 t) (iblk m c 1 t) (iblk m c 2 t) (iblk m c 3 t)

/-- A row block's first point keeps its norm. -/
theorem kept_first (t : Fin cfg0.N) (h0 : t.val % 3 = 0) : (outsAt0 m c t.val t.isLt).2 = hid m c t := by
  rw [outsAt0_A m c t h0]
  frame_out
  rfl

/-- Later points keep what the point before kept. -/
theorem kept_next (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0]
  frame_out
  try rfl

/-- Each point writes the product of the kept norm with its columns. -/
theorem written (t : Fin cfg0.N) :
    (outsAt0 m c t.val t.isLt).1 = k0_pay2 (outsAt0 m c t.val t.isLt).2 (iblk m c 4 t) := by
  by_cases h0 : t.val % 3 = 0
  · rw [kept_first m c t h0, outsAt0_A m c t h0]
    frame_out
    rfl
  · rw [kept_next m c t h0, outsAt0_B m c t h0]
    frame_out
    simp only [read_unread_whole]
    try rfl

/-- The kept norm at an index: the token's modulated norm. -/
theorem hid_apply (t : Fin cfg0.N) (r : Fin 512) (b : Fin 8) (s : Fin 2048)
    (h : 512 * (t.val / 3) + r.val = 2048 * b.val + s.val) (k : Fin 1024) : hid m c t (ix2 r k) = hd m c b s k := by
  have hb : t.val / 12 = b.val := by omega
  unfold hid
  rw [pay1_apply]
  simp only [blk0 m c t r _ b s h, blk1 m c t, fun k => blk2 m c t k b ⟨1024 + k.val, by omega⟩ hb rfl,
    fun k => blk3 m c t k b ⟨k.val, by omega⟩ hb rfl]
  rfl

/-- What is kept after a point: the norm of its row block. -/
theorem kept_apply : ∀ (t : Nat) (ht : t < cfg0.N) (r : Fin 512) (b : Fin 8) (s : Fin 2048)
    (_ : 512 * (t / 3) + r.val = 2048 * b.val + s.val) (k : Fin 1024), (outsAt0 m c t ht).2 (ix2 r k) = hd m c b s k
  | t, ht, r, b, s, h, k => by
    by_cases h0 : t % 3 = 0
    · rw [show (outsAt0 m c t ht).2 = hid m c ⟨t, ht⟩ from kept_first m c ⟨t, ht⟩ h0]
      exact hid_apply m c ⟨t, ht⟩ r b s h k
    · rw [show (outsAt0 m c t ht).2 = _ from kept_next m c ⟨t, ht⟩ h0]
      exact kept_apply (t - 1) _ r b s (by omega) k
termination_by t => t
decreasing_by omega

/-- The projection's result at row `2048 * b + s` and column `n`. -/
theorem value (b : Fin 8) (s : Fin 2048) (R : Fin 16384) (n : Fin 3456) (h : R.val = 2048 * b.val + s.val) :
    Value.G5 m c (ix2 R n) = placed (fun j => ∑ k : Fin 1024, hd m c b s k * w m c k j) n := by
  have hN : cfg0.N = 96 := N_0
  have hpt : Value.pt5Of (ix2 R n) = 3 * (R.val / 512) + n.val / 1152 := by
    show 3 * (R.val / 512 - 0) + 1 * (n.val / 1152 - 0) = _
    omega
  have hlt : Value.pt5Of (ix2 R n) < cfg0.N := by rw [hpt, hN]; omega
  have hloc : Value.loc5Of (ix2 R n)
      = ix2 ⟨R.val % 512, Nat.mod_lt _ (by decide)⟩ ⟨n.val % 1152, Nat.mod_lt _ (by decide)⟩ := by
    funext a
    match a with
    | ⟨0, _⟩ => rfl
    | ⟨1, _⟩ => rfl
  unfold Value.G5
  rw [dif_pos hlt, ← Value.outsAt0_sweep m c _ hlt, hloc]
  revert hlt
  rw [hpt]
  intro hlt
  rw [show (outsAt0 m c _ hlt).1 = _ from written m c ⟨_, hlt⟩, pay2_apply]
  refine Eq.trans (Finset.sum_congr (M := EReal) rfl fun k _ => ?_) (sum_placed (hd m c b s) (w m c) n)
  rw [kept_apply m c _ hlt _ b s (by show 512 * ((3 * (R.val / 512) + n.val / 1152) / 3) + R.val % 512 = _; omega) k,
    blk4 m c ⟨_, hlt⟩ k _ n (by show 1152 * ((3 * (R.val / 512) + n.val / 1152) % 3) + n.val % 1152 = n.val; omega)]

end Cert.In.KernelValue
-- ==== Proof.In.Reference.lean ====
module

public import proofs.«01_k».proof.Proof.Gen.ReferenceInIdeal.Read
public import proofs.«01_k».proof.Proof.Moe.Spec
public import proofs.«01_k».proof.Proof.In.Columns
public import Idealize.ShloMosaic.Lib.Pointwise
public import Idealize.ShloMosaic.Lib.ValueIdx

/-! The input projection's reference at an index, in terms of its arguments. -/

@[expose] public section

set_option maxRecDepth 16384

noncomputable section

namespace Cert.In.Reference

open Idealize.ShloMosaic Idealize.ShloMosaic.TcCoe
open Cert.ReferenceInIdeal Cert.ReferenceInIdeal.Gen Cert.ReferenceInIdeal.Read Cert.Moe

variable (x0 : Vec Ideal S8x2048x1024 .f32) (x1 : Vec Ideal S8x6144 .f32) (x2 : Vec Ideal S1024 .f32)
  (x3 : Vec Ideal S1024x3344 .f32)

/-- The modulated norm. -/
theorem hidden_apply (b : Fin 8) (s : Fin 2048) (k : Fin 1024) :
    val_main_v30 (F := Ideal) x0 x1 x2 (ix3 b s k)
      = Spec.hidden (fun k => x0 (ix3 b s k)) (fun k => x1 (ix2 b ⟨1024 + k.val, by omega⟩))
          (fun k => x1 (ix2 b ⟨k.val, by omega⟩)) (fun k => x2 (ix1 k)) k := by
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v7, val_main_v6, val_main_v1, val_main_v0, val_main_cst, val_main_cst_0,
    val_main_cst_1, val_main_cst_2]
  rfl

/-- The projection. -/
theorem proj_apply (b : Fin 8) (s : Fin 2048) (j : Fin 3344) :
    val_main_v31 (F := Ideal) x0 x1 x2 x3 (ix3 b s j)
      = ∑ k : Fin 1024, val_main_v30 (F := Ideal) x0 x1 x2 (ix3 b s k) * x3 (ix2 k j) := by
  pointwise [val_main_v31]

/-- The pieces of a row, side by side: the row in the mixers' order. -/
theorem pieces_apply (b : Fin 8) (s : Fin 2048) (n : Fin 3456) :
    val_main_v45 (F := Ideal) x0 x1 x2 x3 (ix3 b s n)
      = placed (fun j => val_main_v31 (F := Ideal) x0 x1 x2 x3 (ix3 b s j)) n := by
  pointwise [val_main_v45, val_main_v44, val_main_v43, val_main_v42, val_main_v41, val_main_v40, val_main_v39, val_main_v38,
    val_main_v37, val_main_v36, val_main_v35, val_main_v34, val_main_v33, val_main_v32, val_main_cst_3]
  unfold placed col
  iterate 9 refine placed_step (fun _ => congrArg (fun j => val_main_v31 (F := Ideal) x0 x1 x2 x3 (ix3 b s j))
    (Fin.ext (by first | rfl | (dsimp only; omega)))) ?_
  rfl

/-- The reference's result at row `2048 * b + s` and column `n`. -/
theorem value (b : Fin 8) (s : Fin 2048) (R : Fin 16384) (n : Fin 3456) (h : R.val = 2048 * b.val + s.val) :
    val_main_v46 (F := Ideal) x0 x1 x2 x3 (ix2 R n)
      = placed (fun j => ∑ k : Fin 1024, val_main_v30 (F := Ideal) x0 x1 x2 (ix3 b s k) * x3 (ix2 k j)) n := by
  refine Eq.trans ?_ ((pieces_apply x0 x1 x2 x3 b s n).trans (congrArg (fun y => placed y n) (funext fun j => proj_apply x0 x1 x2 x3 b s j)))
  refine shapeCast_apply _ _ _ _ ?_
  rw [rowMajor_val3 (ix3 b s n) 7077888 3456 rfl rfl, rowMajor_val2 (ix2 R n) 3456 rfl]
  show b.val * 7077888 + s.val * 3456 + n.val = R.val * 3456 + n.val
  omega

end Cert.In.Reference
-- ==== Proof.In.Equal.lean ====
module

public import proofs.«01_k».proof.Defs
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.In.KernelValue
public import proofs.«01_k».proof.Proof.In.Reference
public import Idealize.ShloMosaic.Adequacy
public import Idealize.ShloMosaic.Init

/-! The input projection: the claims about its reference and its value. -/

@[expose] public section

noncomputable section

namespace Cert.In

open Idealize.ShloMosaic Idealize.ShloMosaic.TcCoe Idealize.SL.Sem

/-- The reference runs, its arguments end unchanged, and it declares no semaphore. -/
theorem frame_reference : Cert.quiescent_ReferenceInIdeal :=
  fun m ρ _ => (θ_run Cert.ReferenceInIdeal.defs _ _).mono (fun r h => ⟨fun c => (h c).2, sem_eq_zero_of_no_sems (by decide) r.2⟩)
    (Cert.ReferenceInIdeal.Value.run (F := Ideal) m ρ)

/-- The kernel's result and the reference's are equal over the extended reals. -/
theorem algebraic : Cert.algebraic_KernelInIdeal_ReferenceInIdeal := by
  intro m ρ m' ρ' _ hagree
  refine ⟨fun c => Cert.KernelInIdeal.Value.G5 m c, Cert.KernelInIdeal.Value.run (F := Ideal) m ρ, ?_⟩
  refine (θ_run Cert.ReferenceInIdeal.defs _ _).mono (fun r h c => ⟨(h c).1.trans ?_, (h c).2⟩)
    (Cert.ReferenceInIdeal.Value.run (F := Ideal) m' ρ')
  obtain ⟨a0, a1, a2, a3⟩ := hagree c
  refine (Cert.ReferenceInIdeal.Read.val_main_v46_eq (F := Ideal) m' c).trans ?_
  show Cert.ReferenceInIdeal.Read.val_main_v46 (F := Ideal)
    (m' ((c.tc : Thread Cert.ReferenceInIdeal.nD Cert.ReferenceInIdeal.τ).loc Cert.ReferenceInIdeal.main_arg0))
    (m' ((c.tc : Thread Cert.ReferenceInIdeal.nD Cert.ReferenceInIdeal.τ).loc Cert.ReferenceInIdeal.main_arg1))
    (m' ((c.tc : Thread Cert.ReferenceInIdeal.nD Cert.ReferenceInIdeal.τ).loc Cert.ReferenceInIdeal.main_arg2))
    (m' ((c.tc : Thread Cert.ReferenceInIdeal.nD Cert.ReferenceInIdeal.τ).loc Cert.ReferenceInIdeal.main_arg3)) = _
  rw [a0, a1, a2, a3]
  funext i
  obtain ⟨R, d, rfl⟩ : ∃ (R : Fin 16384) (d : Fin 3456), i = ix2 R d :=
    ⟨i 0, i 1, funext fun a => match a with | ⟨0, _⟩ => rfl | ⟨1, _⟩ => rfl⟩
  have hR : R.val = 2048 * (⟨R.val / 2048, by omega⟩ : Fin 8).val + (⟨R.val % 2048, Nat.mod_lt _ (by decide)⟩ : Fin 2048).val := by
    show R.val = 2048 * (R.val / 2048) + R.val % 2048; omega
  refine (Cert.In.Reference.value _ _ _ _ _ _ R d hR).trans (Eq.trans ?_ (Cert.In.KernelValue.value m c _ _ R d hR).symm)
  simp only [Cert.In.Reference.hidden_apply]
  rfl

end Cert.In

end
-- ==== Proof.Out.Groups.lean ====
module

public import Idealize.ShloMosaic.Lib.Pointwise
public import Idealize.ShloMosaic.Lib.Pipeline.ValueKit.Acc

/-! The four mixers' outputs side by side, and a product with them group by group. -/

@[expose] public section

noncomputable section

namespace Cert.Out

/-- The four mixers' rows side by side. -/
def joined (y0 y1 y2 y3 : Fin 256 → EReal) (k : Fin 1024) : EReal :=
  if h : k.val < 256 then y0 ⟨k.val, h⟩
  else if h : k.val - 256 < 256 then y1 ⟨k.val - 256, h⟩
  else if h : k.val - 256 - 256 < 256 then y2 ⟨k.val - 256 - 256, h⟩
  else y3 ⟨k.val - 256 - 256 - 256, by omega⟩

/-- A sum over the joined axis is the groups' sums. -/
theorem sum_groups (g : Fin 1024 → EReal) (hl : ∀ (s : Fin 4) (f : Fin 256), s.val * 256 + f.val < 1024) :
    ∑ s : Fin 4, ∑ f : Fin 256, g ⟨s.val * 256 + f.val, hl s f⟩ = ∑ k : Fin 1024, g k := by
  refine (Fin.sum_points_lanes_congr (A := 1) (L := 1024) 4 (g := fun _ l => g l) fun t k ha hl => ?_).trans (Fin.sum_univ_one _)
  exact congrArg g (Fin.ext (by show t.val * 256 + k.val = t.val % 4 * 256 + k.val; omega))

/-- A product with the joined rows, group by group. -/
theorem sum_joined (y0 y1 y2 y3 : Fin 256 → EReal) (w : Fin 1024 → EReal) :
    ∑ k : Fin 1024, joined y0 y1 y2 y3 k * w k
      = (∑ k : Fin 256, y0 k * w ⟨k.val, by omega⟩) + (∑ k : Fin 256, y1 k * w ⟨256 + k.val, by omega⟩)
        + (∑ k : Fin 256, y2 k * w ⟨512 + k.val, by omega⟩) + ∑ k : Fin 256, y3 k * w ⟨768 + k.val, by omega⟩ := by
  rw [← sum_groups _ fun s f => by omega, Fin.sum_univ_four]
  refine congrArg₂ (· + ·) (congrArg₂ (· + ·) (congrArg₂ (· + ·) ?_ ?_) ?_) ?_ <;>
    refine Finset.sum_congr rfl fun k _ => congrArg₂ (· * ·) ?_ (congrArg w (Fin.ext (by simp <;> omega)))
  · exact dif_pos (by show 0 * 256 + k.val < 256; omega) |>.trans (congrArg y0 (Fin.ext (by show 0 * 256 + k.val = k.val; omega)))
  · refine (dif_neg (by show ¬1 * 256 + k.val < 256; omega)).trans ((dif_pos (by show 1 * 256 + k.val - 256 < 256; omega)).trans ?_)
    exact congrArg y1 (Fin.ext (by show 1 * 256 + k.val - 256 = k.val; omega))
  · refine (dif_neg (by show ¬2 * 256 + k.val < 256; omega)).trans ((dif_neg (by show ¬2 * 256 + k.val - 256 < 256; omega)).trans
      ((dif_pos (by show 2 * 256 + k.val - 256 - 256 < 256; omega)).trans ?_))
    exact congrArg y2 (Fin.ext (by show 2 * 256 + k.val - 256 - 256 = k.val; omega))
  · refine (dif_neg (by show ¬3 * 256 + k.val < 256; omega)).trans ((dif_neg (by show ¬3 * 256 + k.val - 256 < 256; omega)).trans
      ((dif_neg (by show ¬3 * 256 + k.val - 256 - 256 < 256; omega)).trans ?_))
    exact congrArg y3 (Fin.ext (by show 3 * 256 + k.val - 256 - 256 - 256 = k.val; omega))

end Cert.Out
-- ==== Proof.Out.KernelValue.lean ====
module

public import proofs.«01_k».proof.Proof.Gen.KernelOutIdeal.Frame
public import proofs.«01_k».proof.Proof.Gen.KernelOutIdeal.Value
public import Idealize.ShloMosaic.Lib.Pointwise
public import Idealize.ShloMosaic.Lib.ValueIdx
public import Idealize.ShloMosaic.Lib.Pipeline.ValueKit
public import Idealize.ShloMosaic.Lib.Pipeline.ValueKit.Point
public import Idealize.ShloMosaic.Lib.Pipeline.ReadBack
public import proofs.«01_k».proof.Proof.Moe.Blocks
public import proofs.«01_k».proof.Proof.Out.Groups

/-! The output projection's result at an index, in terms of its arguments: one point for each block of 512 rows. -/

@[expose] public section

set_option maxRecDepth 16384

noncomputable section

namespace Cert.Out.KernelValue

open Idealize.ShloMosaic Idealize.ShloMosaic.TcCoe
open Cert.KernelOutIdeal Cert.KernelOutIdeal.Gen Cert.Moe

/-- What a point writes, at an index: the input plus the modulated product, group by group. -/
theorem out_apply (y0 y1 y2 y3 : Vec Ideal S512x256 .f32) (w : Vec Ideal S1024x1024 .bf16) (x : Vec Ideal S512x1024 .f32)
    (gt : Vec Ideal S1x1x1024 .f32) (r : Fin 512) (d : Fin 1024) :
    out0_7 y0 y1 y2 y3 w x gt (ix2 r d)
      = x (ix2 r d) + gt (ix3 0 0 d) * ∑ k : Fin 1024, joined (fun k => y0 (ix2 r k)) (fun k => y1 (ix2 r k))
          (fun k => y2 (ix2 r k)) (fun k => y3 (ix2 r k)) k * w (ix2 k d) := by
  rw [sum_joined _ _ _ _ fun k => w (ix2 k d)]
  unfold out0_7
  frame_out
  pointwise [k0_pay1]

variable (m : (ℓ : Loc nD τ sig) → Buf (Elt Ideal) ℓ) (c : Dev nD)

/-! ## The blocks by the arguments' coordinates -/

/-- A token's row of the first mixer's output. -/
def y0 (b : Fin 8) (s : Fin 2048) (k : Fin 256) : EReal := m (c.tc.loc main_arg0) (ix3 b s k)
/-- A token's row of the second mixer's output. -/
def y1 (b : Fin 8) (s : Fin 2048) (k : Fin 256) : EReal := m (c.tc.loc main_arg1) (ix3 b s k)
/-- A token's row of the third mixer's output. -/
def y2 (b : Fin 8) (s : Fin 2048) (k : Fin 256) : EReal := m (c.tc.loc main_arg2) (ix3 b s k)
/-- A token's row of the fourth mixer's output. -/
def y3 (b : Fin 8) (s : Fin 2048) (k : Fin 256) : EReal := m (c.tc.loc main_arg3) (ix3 b s k)
/-- The projection. -/
def w (k : Fin 1024) (d : Fin 1024) : EReal := m (c.tc.loc main_arg4) (ix2 k d)
/-- A token's row of the input. -/
def x (b : Fin 8) (s : Fin 2048) (k : Fin 1024) : EReal := m (c.tc.loc main_arg5) (ix3 b s k)
/-- The six modulation vectors of a batch entry, in one row. -/
def md (b : Fin 8) (k : Fin 6144) : EReal := m (c.tc.loc main_arg6) (ix2 b k)

/-- The row windows' block at a point. -/
theorem rows : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_7.index t = ![t.val, 0] := by decide +kernel
/-- The projection is one block. -/
theorem idx4 : ∀ t : Fin cfg0.N, win0_4.index t = ![0, 0] := by decide +kernel
/-- The modulation's block. -/
theorem idx6 : ∀ t : Fin cfg0.N, win0_6.index t = ![t.val / 4, 0, 2] := by decide +kernel

/-- A flattened mixer's output at a row: the row's batch and position. -/
theorem flat_apply (v : Vec Ideal S8x2048x256 .f32) (R : Fin 16384) (k : Fin 256) (b : Fin 8) (s : Fin 2048)
    (h : R.val = 2048 * b.val + s.val) :
    shapeCast S16384x256 v shapeCasts_S8x2048x256_S16384x256 (ix2 R k) = v (ix3 b s k) := by
  refine shapeCast_apply _ _ _ _ ?_
  rw [rowMajor_val3 (ix3 b s k) 524288 256 rfl rfl, rowMajor_val2 (ix2 R k) 256 rfl]
  show b.val * 524288 + s.val * 256 + k.val = R.val * 256 + k.val
  omega

/-- The first mixer's block at a point. -/
theorem blk0 (t : Fin cfg0.N) (r : Fin 512) (k : Fin 256) (b : Fin 8) (s : Fin 2048)
    (h : 512 * t.val + r.val = 2048 * b.val + s.val) : iblk m c 0 t (ix2 r k) = y0 m c b s k := by
  refine Eq.trans ?_ (flat_apply (m (c.tc.loc main_arg0)) ⟨2048 * b.val + s.val, by omega⟩ k b s rfl)
  show _ = V m c main_v3 _
  blk_ext [iblk, (rows t).1]

/-- The second mixer's block at a point. -/
theorem blk1 (t : Fin cfg0.N) (r : Fin 512) (k : Fin 256) (b : Fin 8) (s : Fin 2048)
    (h : 512 * t.val + r.val = 2048 * b.val + s.val) : iblk m c 1 t (ix2 r k) = y1 m c b s k := by
  refine Eq.trans ?_ (flat_apply (m (c.tc.loc main_arg1)) ⟨2048 * b.val + s.val, by omega⟩ k b s rfl)
  show _ = V m c main_v4 _
  blk_ext [iblk, (rows t).2.1]

/-- The third mixer's block at a point. -/
theorem blk2 (t : Fin cfg0.N) (r : Fin 512) (k : Fin 256) (b : Fin 8) (s : Fin 2048)
    (h : 512 * t.val + r.val = 2048 * b.val + s.val) : iblk m c 2 t (ix2 r k) = y2 m c b s k := by
  refine Eq.trans ?_ (flat_apply (m (c.tc.loc main_arg2)) ⟨2048 * b.val + s.val, by omega⟩ k b s rfl)
  show _ = V m c main_v5 _
  blk_ext [iblk, (rows t).2.2.1]

/-- The fourth mixer's block at a point. -/
theorem blk3 (t : Fin cfg0.N) (r : Fin 512) (k : Fin 256) (b : Fin 8) (s : Fin 2048)
    (h : 512 * t.val + r.val = 2048 * b.val + s.val) : iblk m c 3 t (ix2 r k) = y3 m c b s k := by
  refine Eq.trans ?_ (flat_apply (m (c.tc.loc main_arg3)) ⟨2048 * b.val + s.val, by omega⟩ k b s rfl)
  show _ = V m c main_v6 _
  blk_ext [iblk, (rows t).2.2.2.1]

/-- The projection at a point. -/
theorem blk4 (t : Fin cfg0.N) (k d : Fin 1024) : iblk m c 4 t (ix2 k d) = w m c k d := by
  unfold w
  blk_ext! [iblk, V, idx4 t]

/-- The input's block at a point. -/
theorem blk5 (t : Fin cfg0.N) (r : Fin 512) (d : Fin 1024) (b : Fin 8) (s : Fin 2048)
    (h : 512 * t.val + r.val = 2048 * b.val + s.val) : iblk m c 5 t (ix2 r d) = x m c b s d := by
  refine Eq.trans ?_ (Blocks.flat_apply (m (c.tc.loc main_arg5)) ⟨2048 * b.val + s.val, by omega⟩ d b s rfl)
  show _ = V m c main_v0 _
  blk_ext [iblk, (rows t).2.2.2.2.1]

/-- The modulation at a point. -/
theorem blk6 (t : Fin cfg0.N) (d : Fin 1024) (b : Fin 8) (k : Fin 6144) (h : t.val / 4 = b.val)
    (hk : k.val = 2048 + d.val) : iblk m c 6 t (ix3 0 0 d) = md m c b k := by
  refine Eq.trans ?_ (Blocks.unit_apply (m (c.tc.loc main_arg6)) b k)
  show _ = V m c main_v1 _
  blk_ext [iblk, idx6 t]

/-- Every point writes its block back. -/
theorem flushes : ∀ t : Fin cfg0.N, (cfg0.win 7).flush t = true := by decide +kernel

/-- The result at row `2048 * b + s` and column `d`. -/
theorem value (b : Fin 8) (s : Fin 2048) (R : Fin 16384) (d : Fin 1024) (h : R.val = 2048 * b.val + s.val) :
    (dats m 0 c).arrAt 7 cfg0.N (ix2 R d)
      = x m c b s d + md m c b ⟨2048 + d.val, by omega⟩
          * ∑ k : Fin 1024, joined (y0 m c b s) (y1 m c b s) (y2 m c b s) (y3 m c b s) k * w m c k d := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hrow : 512 * t.val + r.val = 2048 * b.val + s.val := by omega
  have hb := congrFun ((Value.blocks7 m c t (flushes t)).trans (Value.flushed7 m c t)) (ix2 r d)
  have hi : ((cfg0.win 7).blk t).view.emb (ix2 r d) = ix2 R d := by
    funext a
    apply Fin.ext
    match a with
    | ⟨0, _⟩ =>
      show win0_7.index t (0 : Fin 2) * 512 + 1 * r.val = R.val
      rw [(rows t).2.2.2.2.2]
      show t.val * 512 + 1 * r.val = R.val
      omega
    | ⟨1, _⟩ =>
      show win0_7.index t (1 : Fin 2) * 1024 + 1 * d.val = d.val
      rw [(rows t).2.2.2.2.2]
      show 0 * 1024 + 1 * d.val = d.val
      omega
  have e : (dats m 0 c).arrAt 7 cfg0.N (ix2 R d)
      = out0_7 (iblk m c 0 t) (iblk m c 1 t) (iblk m c 2 t) (iblk m c 3 t) (iblk m c 4 t) (iblk m c 5 t) (iblk m c 6 t)
          (ix2 r d) := by
    rw [← hi]
    exact hb
  rw [e, out_apply, blk5 m c t r d b s hrow, blk6 m c t d b ⟨2048 + d.val, by omega⟩ (by omega) rfl]
  simp only [fun k => blk0 m c t r k b s hrow, fun k => blk1 m c t r k b s hrow, fun k => blk2 m c t r k b s hrow,
    fun k => blk3 m c t r k b s hrow, fun k => blk4 m c t k d]

end Cert.Out.KernelValue
-- ==== Proof.Out.Reference.lean ====
module

public import proofs.«01_k».proof.Proof.Gen.ReferenceOutIdeal.Read
public import proofs.«01_k».proof.Proof.Moe.Blocks
public import proofs.«01_k».proof.Proof.Out.Groups
public import Idealize.ShloMosaic.Lib.Pointwise

/-! The output projection's reference at an index, in terms of its arguments. -/

@[expose] public section

set_option maxRecDepth 16384

noncomputable section

namespace Cert.Out.Reference

open Idealize.ShloMosaic Idealize.ShloMosaic.TcCoe
open Cert.ReferenceOutIdeal Cert.ReferenceOutIdeal.Gen Cert.ReferenceOutIdeal.Read Cert.Moe

variable (x0 x1 x2 x3 : Vec Ideal S8x2048x256 .f32) (x4 : Vec Ideal S1024x1024 .f32) (x5 : Vec Ideal S8x2048x1024 .f32)
  (x6 : Vec Ideal S8x6144 .f32)

/-- The mixers' outputs side by side. -/
theorem joined_apply (b : Fin 8) (s : Fin 2048) (k : Fin 1024) :
    val_main_v12 (F := Ideal) x0 x1 x2 x3 (ix3 b s k)
      = joined (fun k => x0 (ix3 b s k)) (fun k => x1 (ix3 b s k)) (fun k => x2 (ix3 b s k)) (fun k => x3 (ix3 b s k)) k := by
  pointwise [val_main_v12]
  rfl

/-- The reference's result at row `2048 * b + s` and column `d`. -/
theorem value (b : Fin 8) (s : Fin 2048) (R : Fin 16384) (d : Fin 1024) (h : R.val = 2048 * b.val + s.val) :
    val_main_v17 (F := Ideal) x0 x1 x2 x3 x4 x5 x6 (ix2 R d)
      = x5 (ix3 b s d) + x6 (ix2 b ⟨2048 + d.val, by omega⟩)
          * ∑ k : Fin 1024, joined (fun k => x0 (ix3 b s k)) (fun k => x1 (ix3 b s k)) (fun k => x2 (ix3 b s k))
              (fun k => x3 (ix3 b s k)) k * x4 (ix2 k d) := by
  refine (Blocks.flat_apply (val_main_v16 (F := Ideal) x0 x1 x2 x3 x4 x5 x6) R d b s h).trans ?_
  simp only [← joined_apply]
  pointwise [val_main_v16, val_main_v15, val_main_v14, val_main_v13, val_main_v8, val_main_v2]

end Cert.Out.Reference
-- ==== Proof.Out.Equal.lean ====
module

public import proofs.«01_k».proof.Defs
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Out.KernelValue
public import proofs.«01_k».proof.Proof.Out.Reference
public import Idealize.ShloMosaic.Adequacy
public import Idealize.ShloMosaic.Init

/-! The output projection: the claims about its reference and its value. -/

@[expose] public section

noncomputable section

namespace Cert.Out

open Idealize.ShloMosaic Idealize.ShloMosaic.TcCoe Idealize.SL.Sem

/-- The reference runs, its arguments end unchanged, and it declares no semaphore. -/
theorem frame_reference : Cert.quiescent_ReferenceOutIdeal :=
  fun m ρ _ => (θ_run Cert.ReferenceOutIdeal.defs _ _).mono (fun r h => ⟨fun c => (h c).2, sem_eq_zero_of_no_sems (by decide) r.2⟩)
    (Cert.ReferenceOutIdeal.Value.run (F := Ideal) m ρ)

/-- The kernel's result and the reference's are equal over the extended reals. -/
theorem algebraic : Cert.algebraic_KernelOutIdeal_ReferenceOutIdeal := by
  intro m ρ m' ρ' _ hagree
  refine ⟨fun c => (Cert.KernelOutIdeal.Gen.dats m 0 c).arrAt 7 Cert.KernelOutIdeal.cfg0.N, Cert.KernelOutIdeal.Value.run_blocks (F := Ideal) m ρ, ?_⟩
  refine (θ_run Cert.ReferenceOutIdeal.defs _ _).mono (fun r h c => ⟨(h c).1.trans ?_, (h c).2⟩)
    (Cert.ReferenceOutIdeal.Value.run (F := Ideal) m' ρ')
  obtain ⟨a0, a1, a2, a3, a4, a5, a6⟩ := hagree c
  refine (Cert.ReferenceOutIdeal.Read.val_main_v17_eq (F := Ideal) _ _ _ _ _ _ _).trans ?_
  show Cert.ReferenceOutIdeal.Read.val_main_v17 (F := Ideal)
    (m' ((c.tc : Thread Cert.ReferenceOutIdeal.nD Cert.ReferenceOutIdeal.τ).loc Cert.ReferenceOutIdeal.main_arg0))
    (m' ((c.tc : Thread Cert.ReferenceOutIdeal.nD Cert.ReferenceOutIdeal.τ).loc Cert.ReferenceOutIdeal.main_arg1))
    (m' ((c.tc : Thread Cert.ReferenceOutIdeal.nD Cert.ReferenceOutIdeal.τ).loc Cert.ReferenceOutIdeal.main_arg2))
    (m' ((c.tc : Thread Cert.ReferenceOutIdeal.nD Cert.ReferenceOutIdeal.τ).loc Cert.ReferenceOutIdeal.main_arg3))
    (m' ((c.tc : Thread Cert.ReferenceOutIdeal.nD Cert.ReferenceOutIdeal.τ).loc Cert.ReferenceOutIdeal.main_arg4))
    (m' ((c.tc : Thread Cert.ReferenceOutIdeal.nD Cert.ReferenceOutIdeal.τ).loc Cert.ReferenceOutIdeal.main_arg5))
    (m' ((c.tc : Thread Cert.ReferenceOutIdeal.nD Cert.ReferenceOutIdeal.τ).loc Cert.ReferenceOutIdeal.main_arg6)) = _
  rw [a0, a1, a2, a3, a4, a5, a6]
  funext i
  obtain ⟨R, d, rfl⟩ : ∃ (R : Fin 16384) (d : Fin 1024), i = ix2 R d :=
    ⟨i 0, i 1, funext fun a => match a with | ⟨0, _⟩ => rfl | ⟨1, _⟩ => rfl⟩
  have hR : R.val = 2048 * (⟨R.val / 2048, by omega⟩ : Fin 8).val + (⟨R.val % 2048, Nat.mod_lt _ (by decide)⟩ : Fin 2048).val := by
    show R.val = 2048 * (R.val / 2048) + R.val % 2048; omega
  refine (Cert.Out.Reference.value _ _ _ _ _ _ _ _ _ R d hR).trans (Eq.trans ?_ (Cert.Out.KernelValue.value m c _ _ R d hR).symm)
  rfl

end Cert.Out

end
-- ==== Proof.Prep.Pre.lean ====
module

public import proofs.«01_k».proof.Pre_finite_prep
public import proofs.«01_k».proof.Proof.Moe.Pre

/-! The preparation's precondition, read: the entries it names are finite. -/

@[expose] public section

set_option maxRecDepth 16384

noncomputable section

namespace Cert.Prep.Pre

open Idealize.ShloMosaic Cert.Pre_finite_prep Cert.Moe Cert.Moe.Spec

/-- The side conditions of the precondition's operations. -/
instance facts : Cert.Pre_finite_prep.Facts where
  slices_S8x2048x3456_S8x2048x512_0_0_1024 := by decide
  bcast_S_S8x2048x512 := by decide
  reducesTo_S8x2048x512_S_d0_1_2 := by decide
  h_S_ := by decide
  slices_S8x2048x3456_S8x2048x512_0_0_2816 := by decide
  bcast_S_S64 := by decide
  reducesTo_S64_S_d0 := by decide

/-- Finite entries of a run of columns, from finite entries of the columns cut out. -/
theorem real_of_cut {n off : ℕ} (x : FVec Ideal S8x2048x3456 .f32)
    (hs : S8x2048x3456.Slices ![0, 0, off] ⟨3, ![8, 2048, n]⟩)
    (hx : ∀ i, IsReal (extractStridedSlice ⟨3, ![8, 2048, n]⟩ ![0, 0, off] x hs i))
    (b : Fin 8) (s : Fin 2048) (k : Fin 3456) (hk : off ≤ k.val) (hk' : k.val < off + n) : IsReal (x (ix3 b s k)) := by
  refine Eq.subst (motive := IsReal) ?_ (hx (ix3 b s (⟨k.val - off, by omega⟩ : Fin n)))
  unfold extractStridedSlice
  refine congrArg x (funext fun a => ?_)
  match a with
  | ⟨0, _⟩ => exact Fin.ext (Nat.zero_add _)
  | ⟨1, _⟩ => exact Fin.ext (Nat.zero_add _)
  | ⟨2, _⟩ => exact Fin.ext (by show off + (k.val - off) = k.val; omega)

/-- What the precondition says of the arguments over the extended reals. -/
theorem finite (x0 : FVec Ideal S8x2048x3456 .f32) (x1 x2 x3 x4 : FVec Ideal S64 .f32) (x5 : FVec Ideal S4 .f32)
    (h : Cert.Pre_finite_prep.fn (F := Ideal) x0 x1 x2 x3 x4 x5 = fun _ => 1#1) :
    (∀ (b : Fin 8) (s : Fin 2048) (k : Fin 3456), 1024 ≤ k.val → k.val < 1536 → IsReal (x0 (ix3 b s k)))
      ∧ (∀ (b : Fin 8) (s : Fin 2048) (k : Fin 3456), 2816 ≤ k.val → k.val < 3328 → IsReal (x0 (ix3 b s k)))
      ∧ (∀ i, IsReal (x2 i)) ∧ ∀ i, IsReal (x4 i) := by
  obtain ⟨h3, hm⟩ := IntOp.andi_eq_one.1 (congrFun h ix0)
  obtain ⟨h2, hg⟩ := IntOp.andi_eq_one.1 h3
  obtain ⟨hx, hy⟩ := IntOp.andi_eq_one.1 h2
  exact ⟨real_of_cut (n := 512) x0 _ fun i => Pre.real_of_lt _ _ i (Host.reduce_andi_all _ _ _ _ ix0 hx i),
    real_of_cut (n := 512) x0 _ fun i => Pre.real_of_lt _ _ i (Host.reduce_andi_all _ _ _ _ ix0 hy i),
    fun i => Pre.real_of_lt x2 _ i (Host.reduce_andi_all _ _ _ _ ix0 hg i),
    fun i => Pre.real_of_lt x4 _ i (Host.reduce_andi_all _ _ _ _ ix0 hm i)⟩

end Cert.Prep.Pre
-- ==== Proof.Heads.Spec.lean ====
module

public import proofs.«01_k».proof.Proof.Moe.Spec
public import proofs.«01_k».proof.Proof.Moe.Consts
public import Idealize.ShloMosaic.PureOps.Ideal

/-! The preparation of keys, values and forget gates, over the extended reals: the norm of a head, the log of the forget
    gate, and the kernel's ways to take them: a sum over a head by a product with zeros and ones, and a transposition by
    products of three parts with the identity. -/

@[expose] public section

noncomputable section

namespace Cert.Heads

open Idealize.ShloMosaic Cert.Moe

/-- Lane `d` of head `h`, among the lanes of four heads. -/
def lane (h : Fin 4) (d : Fin 64) : Fin 256 := ⟨h.val * 64 + d.val, by omega⟩

/-- Every lane is a lane of a head. -/
theorem exists_lane (j : Fin 256) : ∃ (h : Fin 4) (d : Fin 64), j = lane h d :=
  ⟨⟨j.val / 64, by omega⟩, ⟨j.val % 64, by omega⟩, Fin.ext (by show j.val = j.val / 64 * 64 + j.val % 64; omega)⟩

/-- The norm of a head's vector, with a gain, at a lane. -/
def norm (x : Fin 64 → EReal) (g : EReal) (d : Fin 64) : EReal :=
  x d * Ideal.rsqrt (Ideal.div (∑ e : Fin 64, x e * x e) (Ideal.ofBits FTy.f32 0x42800000#32)
    + Ideal.ofBits FTy.f32 0x358637BD#32) * g

/-- The log of the sigmoid. -/
def logSigmoid (x : EReal) : EReal :=
  -(max (-x) 0 + Ideal.log1p (Ideal.exp (-(max (-x) (-(-x))))))

/-! ## The constants -/

/-- The divisor of the mean over a head. -/
theorem c64 : Ideal.ofBits .f32 0x42800000#32 = ((64 : ℝ) : EReal) := by
  simp [Ideal.ofBits, Ideal.ieee, -EReal.coe_mul]
  norm_num

/-- The kernel's factor for the mean over a head. -/
theorem c64th : Ideal.ofBits .f32 0x3C800000#32 = ((1 / 64 : ℝ) : EReal) := by
  simp [Ideal.ofBits, Ideal.ieee, -EReal.coe_mul]
  norm_num

/-! ## Finite values -/

/-- The sum of the squares of finite numbers is a real number that is not negative. -/
theorem squares_real (x : Fin 64 → EReal) (hx : ∀ e, Spec.IsReal (x e)) :
    ∃ r : ℝ, 0 ≤ r ∧ ∑ e : Fin 64, x e * x e = (r : EReal) := by
  choose a ha using hx
  refine ⟨∑ e : Fin 64, a e * a e, Finset.sum_nonneg fun j _ => mul_self_nonneg _, ?_⟩
  rw [show (fun j => x j * x j) = fun j => ((a j * a j : ℝ) : EReal) from
    funext fun j => by rw [ha j, EReal.coe_mul]]
  exact (map_sum (⟨⟨Real.toEReal, EReal.coe_zero⟩, EReal.coe_add⟩ : ℝ →+ EReal) _ _).symm

/-- The norm of finite numbers is finite. -/
theorem norm_real (x : Fin 64 → EReal) (g : EReal) (d : Fin 64) (hx : ∀ e, Spec.IsReal (x e)) (hg : Spec.IsReal g) :
    Spec.IsReal (norm x g d) := by
  refine Spec.IsReal.mul (Spec.IsReal.mul (hx d) ?_) hg
  obtain ⟨r, hr, hs⟩ := squares_real x hx
  obtain ⟨ε, hε, he⟩ := Consts.eps_pos
  have hpos : 0 < r * (1 / 64) + ε := by positivity
  rw [hs, c64, he, Ideal.div_coe (by norm_num), ← EReal.coe_mul, ← EReal.coe_add, Ideal.rsqrt_coe,
    if_neg (not_lt.mpr hpos.le), if_neg hpos.ne']
  exact ⟨_, rfl⟩

/-- The log of the sigmoid of a finite number is finite. -/
theorem logSigmoid_real (x : EReal) (hx : Spec.IsReal x) : Spec.IsReal (logSigmoid x) := by
  obtain ⟨a, rfl⟩ := hx
  have hm : max (-(a : EReal)) 0 = ((max (-a) 0 : ℝ) : EReal) := by
    rw [← EReal.coe_neg, ← EReal.coe_zero, EReal.coe_strictMono.monotone.map_max]
  have hn : max (-(a : EReal)) (-(-(a : EReal))) = ((max (-a) (-(-a)) : ℝ) : EReal) := by
    rw [← EReal.coe_neg, ← EReal.coe_neg, EReal.coe_strictMono.monotone.map_max]
  have hpos : ¬ (1 + Real.exp (-(max (-a) (-(-a)))) ≤ 0) := not_le.mpr (by positivity)
  unfold logSigmoid
  rw [hm, hn, ← EReal.coe_neg, Ideal.exp_coe, Ideal.log1p, ← EReal.coe_one, ← EReal.coe_add, Ideal.log_coe, if_neg hpos,
    ← EReal.coe_add, ← EReal.coe_neg]
  exact ⟨_, rfl⟩

/-- The log of the sigmoid is never plus infinity: it is finite, or minus infinity at minus infinity. -/
theorem logSigmoid_ne_top (x : EReal) : logSigmoid x ≠ ⊤ := by
  have e0 : Ideal.log1p 0 = 0 := by
    show Ideal.log (1 + 0) = 0
    rw [add_zero, ← EReal.coe_one, Ideal.log_coe, if_neg (by norm_num), Real.log_one, EReal.coe_zero]
  induction x with
  | bot => simp [logSigmoid, e0]
  | top => simp [logSigmoid, e0]
  | coe a =>
    obtain ⟨r, hr⟩ := logSigmoid_real (a : EReal) ⟨a, rfl⟩
    rw [hr]
    exact EReal.coe_ne_top r

/-! ## Zeros and ones -/

/-- A comparison of two small numbers for equality, as a number. -/
theorem indicator (i j : ℕ) (hi : i < 256) (hj : j < 256) :
    FloatOps.sitofp (F := Ideal) FTy.f32 (BitVec.setWidth 32 (IntOp.cmpi CmpIPredicate.eq (BitVec.ofNat 32 i) (BitVec.ofNat 32 j)))
      = if i = j then (1 : EReal) else 0 := by
  have h1 : i % 2 ^ 32 = i := Nat.mod_eq_of_lt (by omega)
  have h2 : j % 2 ^ 32 = j := Nat.mod_eq_of_lt (by omega)
  have hij : (BitVec.ofNat 32 i = BitVec.ofNat 32 j) ↔ i = j := by
    rw [← BitVec.toNat_inj, BitVec.toNat_ofNat, BitVec.toNat_ofNat, h1, h2]
  show (((BitVec.setWidth 32 (IntOp.cmpi CmpIPredicate.eq (BitVec.ofNat 32 i) (BitVec.ofNat 32 j))).toInt : ℝ) : EReal) = _
  by_cases h : i = j
  · rw [if_pos h, h]; simp [IntOp.cmpi]
  · have h' : ¬ (BitVec.ofNat 32 i = BitVec.ofNat 32 j) := fun q => h (hij.mp q)
    rw [if_neg h]; simp [IntOp.cmpi, beq_eq_false_iff_ne.mpr h']

/-- A lane's number shifted right by six bits is its head's. -/
theorem head_word (k : ℕ) (hk : k < 256) : IntOp.shrui ArithUnit.vector (BitVec.ofNat 32 k) 6#32 = BitVec.ofNat 32 (k / 64) := by
  have h : ∀ k : Fin 256, IntOp.shrui ArithUnit.vector (BitVec.ofNat 32 k.val) 6#32 = BitVec.ofNat 32 (k.val / 64) := by
    decide +kernel
  exact h ⟨k, hk⟩

/-- A transposition by the products of three parts with a row of the identity: the first part is the whole of a number that
    is not plus infinity, and the other parts add nothing to it. -/
theorem transposed {n : ℕ} (E x : Fin n → EReal) (i : Fin n) (hE : ∀ k, E k = if i = k then 1 else 0) (hx : x i ≠ ⊤) :
    ∑ k : Fin n, E k * x k + (∑ k : Fin n, E k * (x k - x k) + ∑ k : Fin n, E k * (x k - x k - (x k - x k))) = x i := by
  have pick : ∀ f : Fin n → EReal, ∑ k : Fin n, E k * f k = f i := fun f => by
    rw [Finset.sum_eq_single i (fun k _ hk => by rw [hE, if_neg (Ne.symm hk), zero_mul])
      (fun h => absurd (Finset.mem_univ i) h), hE, if_pos rfl, one_mul]
  rw [pick, pick fun k => x k - x k, pick fun k => x k - x k - (x k - x k)]
  rcases eq_or_ne (x i) ⊥ with hb | hb
  · rw [hb, EReal.bot_add]
  · have hr : Spec.IsReal (x i) := ⟨(x i).toReal, (EReal.coe_toReal hx hb).symm⟩
    rw [hr.sub_self, sub_zero, add_zero, add_zero]

/-- A sum over the lanes, with a one at the lanes of a head and zeros elsewhere, is the sum over the head. -/
theorem sum_head (f H : Fin 256 → EReal) (h : Fin 4) (hH : ∀ k, H k = if k.val / 64 = h.val then 1 else 0) :
    ∑ k : Fin 256, f k * H k = ∑ e : Fin 64, f (lane h e) := by
  have step : ∀ k ∈ (Finset.univ : Finset (Fin 256)), f k * H k = if k.val / 64 = h.val then f k else 0 := fun k _ => by
    rw [hH k]; split <;> simp
  rw [Finset.sum_congr rfl step, ← Finset.sum_filter]
  refine Finset.sum_bij' (fun k _ => ⟨k.val % 64, by omega⟩) (fun e _ => lane h e) (fun _ _ => Finset.mem_univ _) ?_ ?_ ?_ ?_
  · intro e _
    rw [Finset.mem_filter]
    exact ⟨Finset.mem_univ _, by show (h.val * 64 + e.val) / 64 = h.val; omega⟩
  · intro k hk
    have := (Finset.mem_filter.mp hk).2
    exact Fin.ext (by show h.val * 64 + k.val % 64 = k.val; omega)
  · intro e _
    exact Fin.ext (by show (h.val * 64 + e.val) % 64 = e.val; omega)
  · intro k hk
    have := (Finset.mem_filter.mp hk).2
    exact congrArg f (Fin.ext (by show k.val = h.val * 64 + k.val % 64; omega))

/-- The kernel's norm of a head: the squares summed by two parts, times the reciprocal of the head's size. -/
theorem norm_parts (x H : Fin 256 → EReal) (h : Fin 4) (d : Fin 64) (g : EReal)
    (hH : ∀ k, H k = if k.val / 64 = h.val then 1 else 0) (hx : ∀ e, Spec.IsReal (x (lane h e))) :
    x (lane h d) * Ideal.rsqrt ((∑ k : Fin 256, x k * x k * H k + ∑ k : Fin 256, (x k * x k - x k * x k) * H k)
        * Ideal.ofBits FTy.f32 0x3C800000#32 + Ideal.ofBits FTy.f32 0x358637BD#32) * g
      = norm (fun e => x (lane h e)) g d := by
  rw [sum_head (fun k => x k * x k) H h hH, sum_head (fun k => x k * x k - x k * x k) H h hH,
    Finset.sum_eq_zero (s := Finset.univ) (f := fun e => x (lane h e) * x (lane h e) - x (lane h e) * x (lane h e))
      (fun e _ => ((hx e).mul (hx e)).sub_self), add_zero]
  unfold norm
  rw [c64, c64th, Ideal.div_coe (by norm_num)]

/-- The kernel's log of the sigmoid: every negation is a difference from zero. -/
theorem logSigmoid_parts (x : EReal) :
    0 - (max (0 - x) 0 + Ideal.log1p (Ideal.exp (0 - FloatOps.absf (F := Ideal) (φ := .f32) (0 - x)))) = logSigmoid x := by
  simp only [sub_eq_add_neg, zero_add]
  rfl

end Cert.Heads
-- ==== Proof.Prep.Pay.lean ====
module

public import proofs.«01_k».proof.Proof.Gen.KernelPrepIdeal.Skeleton
public import proofs.«01_k».proof.Proof.Heads.Spec
public import Idealize.ShloMosaic.Lib.Pointwise

/-! What the preparation computes at one point, at an index: the transposed keys, values and forget gates of 256 tokens. -/

@[expose] public section

set_option maxRecDepth 16384

noncomputable section

namespace Cert.Prep.Pay

open Idealize.ShloMosaic Idealize.ShloMosaic.TcCoe
open Cert.KernelPrepIdeal Cert.KernelPrepIdeal.Gen Cert.Heads Cert.Moe

/-- The matrix of the heads: one where two lanes are of the same head, zero elsewhere. -/
theorem heads_apply (k j : Fin 256) : k0_pay5 (F := Ideal) (ix2 k j) = if k.val / 64 = j.val / 64 then 1 else 0 := by
  pointwise [k0_pay5]
  rw [head_word _ k.isLt, head_word _ j.isLt]
  exact indicator _ _ (by omega) (by omega)

/-- The matrix of the heads at a lane of a head. -/
theorem heads_lane (k : Fin 256) (h : Fin 4) (d : Fin 64) :
    k0_pay5 (F := Ideal) (ix2 k (lane h d)) = if k.val / 64 = h.val then 1 else 0 := by
  rw [heads_apply, show (lane h d).val / 64 = h.val from by show (h.val * 64 + d.val) / 64 = h.val; omega]

/-- The identity's entry, of lanes. -/
theorem eye {n : ℕ} (hn : n ≤ 256) (i k : Fin n) :
    FloatOps.sitofp (F := Ideal) FTy.f32 (BitVec.setWidth 32 (IntOp.cmpi CmpIPredicate.eq (BitVec.ofNat 32 i.val) (BitVec.ofNat 32 k.val)))
      = if i = k then (1 : EReal) else 0 :=
  (indicator i.val k.val (by omega) (by omega)).trans (if_congr Fin.ext_iff.symm rfl rfl)

/-- A token's lane, normed as the kernel does it. -/
def normed (x : Vec Ideal S1x256x256 .f32) (g : Vec Ideal S1x256 .f32) (r k : Fin 256) : EReal :=
  x (ix3 0 r k) * Ideal.rsqrt ((∑ l : Fin 256, x (ix3 0 r l) * x (ix3 0 r l) * k0_pay5 (F := Ideal) (ix2 l k)
      + ∑ l : Fin 256, (x (ix3 0 r l) * x (ix3 0 r l) - x (ix3 0 r l) * x (ix3 0 r l)) * k0_pay5 (F := Ideal) (ix2 l k))
    * Ideal.ofBits FTy.f32 0x3C800000#32 + Ideal.ofBits FTy.f32 0x358637BD#32) * g (ix2 0 k)

/-- It is the norm of the lane's head. -/
theorem normed_eq (x : Vec Ideal S1x256x256 .f32) (g : Vec Ideal S1x256 .f32) (r : Fin 256) (h : Fin 4) (d : Fin 64)
    (hx : ∀ k, Spec.IsReal (x (ix3 0 r k))) :
    normed x g r (lane h d) = norm (fun e => x (ix3 0 r (lane h e))) (g (ix2 0 (lane h d))) d :=
  norm_parts (fun k => x (ix3 0 r k)) (fun k => k0_pay5 (F := Ideal) (ix2 k (lane h d))) h d (g (ix2 0 (lane h d)))
    (fun k => heads_lane k h d) fun e => hx (lane h e)

/-- The transposition of the normed lanes, in three parts. -/
theorem key_parts (x : Vec Ideal S1x256x256 .f32) (g : Vec Ideal S1x256 .f32) (r : Fin 256) (h : Fin 4) (d : Fin 64)
    (hx : ∀ k, Spec.IsReal (x (ix3 0 r k))) (hg : ∀ k, Spec.IsReal (g (ix2 0 k))) :
    ∑ k : Fin 256, FloatOps.sitofp (F := Ideal) FTy.f32 (BitVec.setWidth 32 (IntOp.cmpi CmpIPredicate.eq (BitVec.ofNat 32 (lane h d).val) (BitVec.ofNat 32 k.val)))
        * normed x g r k
      + (∑ k : Fin 256, FloatOps.sitofp (F := Ideal) FTy.f32 (BitVec.setWidth 32 (IntOp.cmpi CmpIPredicate.eq (BitVec.ofNat 32 (lane h d).val) (BitVec.ofNat 32 k.val)))
          * (normed x g r k - normed x g r k)
        + ∑ k : Fin 256, FloatOps.sitofp (F := Ideal) FTy.f32 (BitVec.setWidth 32 (IntOp.cmpi CmpIPredicate.eq (BitVec.ofNat 32 (lane h d).val) (BitVec.ofNat 32 k.val)))
          * (normed x g r k - normed x g r k - (normed x g r k - normed x g r k)))
      = norm (fun e => x (ix3 0 r (lane h e))) (g (ix2 0 (lane h d))) d := by
  refine (transposed _ (normed x g r) (lane h d) (fun k => eye le_rfl (lane h d) k) ?_).trans (normed_eq x g r h d hx)
  rw [normed_eq x g r h d hx]
  exact (norm_real _ _ _ (fun e => hx _) (hg _)).ne_top

/-- The first attention's keys, normed and transposed. -/
theorem foxKey (x : Vec Ideal S1x256x256 .f32) (g : Vec Ideal S1x256 .f32) (r : Fin 256) (h : Fin 4) (d : Fin 64)
    (hx : ∀ k, Spec.IsReal (x (ix3 0 r k))) (hg : ∀ k, Spec.IsReal (g (ix2 0 k))) :
    k0_pay10 (k0_pay5 (F := Ideal)) (k0_pay7 x) (k0_pay8 g) (k0_pay9 x) (ix2 (lane h d) r)
      = norm (fun e => x (ix3 0 r (lane h e))) (g (ix2 0 (lane h d))) d := by
  refine Eq.trans ?_ (key_parts x g r h d hx hg)
  pointwise [k0_pay10, k0_pay7, k0_pay8, k0_pay9]
  rfl

/-- The second attention's keys, normed and transposed. -/
theorem mobaKey (x : Vec Ideal S1x256x256 .f32) (g : Vec Ideal S1x256 .f32) (r : Fin 256) (h : Fin 4) (d : Fin 64)
    (hx : ∀ k, Spec.IsReal (x (ix3 0 r k))) (hg : ∀ k, Spec.IsReal (g (ix2 0 k))) :
    k0_pay24 (k0_pay5 (F := Ideal)) (k0_pay22 x) g (ix2 (lane h d) r)
      = norm (fun e => x (ix3 0 r (lane h e))) (g (ix2 0 (lane h d))) d := by
  refine Eq.trans ?_ (key_parts x g r h d hx hg)
  pointwise [k0_pay24, k0_pay23, k0_pay22]
  rfl

/-- The first attention's values, transposed. -/
theorem foxVal (x : Vec Ideal S1x256x256 .f32) (r j : Fin 256) (hx : Spec.IsReal (x (ix3 0 r j))) :
    k0_pay16 x (ix2 j r) = x (ix3 0 r j) := by
  refine Eq.trans ?_ (transposed _ (fun k => x (ix3 0 r k)) j (fun k => eye le_rfl j k) hx.ne_top)
  pointwise [k0_pay16]

/-- The second attention's values, transposed. -/
theorem mobaVal (x : Vec Ideal S1x256x256 .f32) (r j : Fin 256) (hx : Spec.IsReal (x (ix3 0 r j))) :
    k0_pay30 x (ix2 j r) = x (ix3 0 r j) := by
  refine Eq.trans ?_ (transposed _ (fun k => x (ix3 0 r k)) j (fun k => eye le_rfl j k) hx.ne_top)
  pointwise [k0_pay30]

/-- The log of the forget gates, transposed. -/
theorem foxGate (x : Vec Ideal S1x256x128 .f32) (f : Vec Ideal S1x128 .f32) (r : Fin 256) (h : Fin 4) (j : Fin 128)
    (hj : j.val = 4 + h.val) :
    k0_pay39 (k0_pay37 x f) (ix3 0 h r) = logSigmoid (x (ix3 0 r j) + f (ix2 0 j)) := by
  have hp : ∀ k : Fin 128, k0_pay38 (k0_pay37 x f) (ix2 r k) = logSigmoid (x (ix3 0 r k) + f (ix2 0 k)) := fun k => by
    pointwise [k0_pay38, k0_pay37]
    exact logSigmoid_parts _
  refine Eq.trans ?_ (transposed _ (fun k => logSigmoid (x (ix3 0 r k) + f (ix2 0 k))) j (fun k => eye (by decide) j k)
    (logSigmoid_ne_top _))
  pointwise [k0_pay39]
  simp only [hp, hj]

end Cert.Prep.Pay
-- ==== Proof.Prep.KernelValue.lean ====
module

public import proofs.«01_k».proof.Proof.Gen.KernelPrepIdeal.Frame
public import proofs.«01_k».proof.Proof.Gen.KernelPrepIdeal.Value
public import Idealize.ShloMosaic.Lib.Pointwise
public import Idealize.ShloMosaic.Lib.ValueIdx
public import Idealize.ShloMosaic.Lib.Pipeline.ValueKit
public import Idealize.ShloMosaic.Lib.Pipeline.ValueKit.Point
public import Idealize.ShloMosaic.Lib.Pipeline.ReadBack
public import Idealize.ShloMosaic.Lib.Routing.OpsSet
public import proofs.«01_k».proof.Proof.Prep.Pay

/-! The preparation's five results at an index, in terms of its arguments: one point for each block of 256 tokens. -/

@[expose] public section

set_option maxRecDepth 16384

noncomputable section

namespace Cert.Prep.KernelValue

open Idealize.ShloMosaic Idealize.ShloMosaic.TcCoe
open Cert.KernelPrepIdeal Cert.KernelPrepIdeal.Gen Cert.Heads Cert.Moe Cert.Moe.Spec

/-! ## What a point writes -/

/-- The rows of a head of a matrix, with two unit axes. -/
def slab (P : Vec Ideal S256x256 .f32) (off : ℕ) (hs : S256x256.Slices ![off, 0] S64x256) : Vec Ideal S1x1x64x256 .f32 :=
  shapeCast S1x1x64x256 (extractStridedSlice S64x256 ![off, 0] P hs) shapeCasts_S64x256_S1x1x64x256

/-- A head's rows at an index: the matrix at the head's lane. -/
theorem slab_apply (P : Vec Ideal S256x256 .f32) (q : Fin 4) (off : ℕ) (ho : off = 64 * q.val)
    (hs : S256x256.Slices ![off, 0] S64x256) (d : Fin 64) (r : Fin 256) : slab P off hs (ix4 0 0 d r) = P (ix2 (lane q d) r) := by
  subst ho
  refine (shapeCast_apply _ _ (ix4 0 0 d r) (ix2 d r) ?_).trans ?_
  · rw [rowMajor_val4 (ix4 0 0 d r) 16384 16384 256 rfl rfl rfl, rowMajor_val2 (ix2 d r) 256 rfl]
    show d.val * 256 + r.val = 0 * 16384 + 0 * 16384 + d.val * 256 + r.val
    omega
  · unfold extractStridedSlice
    refine congrArg P (funext fun a => match a with | ⟨0, _⟩ => Fin.ext ?_ | ⟨1, _⟩ => Fin.ext ?_)
    · show 64 * q.val + d.val = q.val * 64 + d.val; omega
    · show 0 + r.val = r.val; omega

/-- Four stores, each the 64 rows of a head of one matrix, read back: the matrix at the head's lane. -/
theorem four (P : Vec Ideal S256x256 .f32) (p0 p1 p2 p3 : Vec Ideal S1x1x64x256 .f32)
    (h0 : p0 = slab P 0 (by decide)) (h1 : p1 = slab P 64 (by decide)) (h2 : p2 = slab P 128 (by decide))
    (h3 : p3 = slab P 192 (by decide)) (h : Fin 4) (d : Fin 64) (r : Fin 256) :
    View.canon (Val := Elt Ideal) (s := S1x4x64x256) (e := .f32)
      [⟨Rect.unit ![0, 3, 0, 0] ![1, 1, 64, 256] inb_S1x4x64x256_S1x1x64x256_0_3_0_0, p3⟩,
        ⟨Rect.unit ![0, 2, 0, 0] ![1, 1, 64, 256] inb_S1x4x64x256_S1x1x64x256_0_2_0_0, p2⟩,
        ⟨Rect.unit ![0, 1, 0, 0] ![1, 1, 64, 256] inb_S1x4x64x256_S1x1x64x256_0_1_0_0, p1⟩,
        ⟨Rect.unit ![0, 0, 0, 0] ![1, 1, 64, 256] inb_S1x4x64x256_S1x1x64x256_0_0_0_0, p0⟩] (ix4 0 h d r)
      = P (ix2 (lane h d) r) := by
  have piece : ∀ (p : Vec Ideal S1x1x64x256 .f32) (q : Fin 4) (off : Fin 4 → ℕ)
      (inb : ∀ a, off a + (![1, 1, 64, 256] : Fin 4 → ℕ) a ≤ S1x4x64x256.size a) (ho : off = ![0, q.val, 0, 0])
      (hp : ∀ (d : Fin 64) (r : Fin 256), p (ix4 0 0 d r) = P (ix2 (lane q d) r)) (x : S1x1x64x256.Idx),
      p x = (fun i : S1x4x64x256.Idx => P (ix2 (lane (i 1) (i 2)) (i 3)))
        ((Rect.unit (s := S1x4x64x256) off ![1, 1, 64, 256] inb).emb x) := by
    intro p q off inb ho hp x
    subst ho
    obtain ⟨d, r, rfl⟩ : ∃ (d : Fin 64) (r : Fin 256), x = ix4 0 0 d r :=
      ⟨x 2, x 3, funext fun a => match a with
        | ⟨0, _⟩ => Subsingleton.elim (α := Fin 1) _ _ | ⟨1, _⟩ => Subsingleton.elim (α := Fin 1) _ _
        | ⟨2, _⟩ => rfl | ⟨3, _⟩ => rfl⟩
    refine (hp d r).trans (congrArg P (funext fun a => match a with | ⟨0, _⟩ => Fin.ext ?_ | ⟨1, _⟩ => Fin.ext ?_))
    · show q.val * 64 + d.val = (q.val + 1 * 0) * 64 + (0 + 1 * d.val); omega
    · show r.val = 0 + 1 * r.val; omega
  refine View.canon_apply_of_pieces (fun i : S1x4x64x256.Idx => P (ix2 (lane (i 1) (i 2)) (i 3))) _
    (List.forall_mem_cons.mpr ⟨piece p3 3 ![0, 3, 0, 0] inb_S1x4x64x256_S1x1x64x256_0_3_0_0 rfl (h3 ▸ slab_apply P 3 _ rfl _),
      List.forall_mem_cons.mpr ⟨piece p2 2 ![0, 2, 0, 0] inb_S1x4x64x256_S1x1x64x256_0_2_0_0 rfl (h2 ▸ slab_apply P 2 _ rfl _),
      List.forall_mem_cons.mpr ⟨piece p1 1 ![0, 1, 0, 0] inb_S1x4x64x256_S1x1x64x256_0_1_0_0 rfl (h1 ▸ slab_apply P 1 _ rfl _),
      List.forall_mem_cons.mpr ⟨piece p0 0 ![0, 0, 0, 0] inb_S1x4x64x256_S1x1x64x256_0_0_0_0 rfl (h0 ▸ slab_apply P 0 _ rfl _),
      fun _ e => absurd e List.not_mem_nil⟩⟩⟩⟩) _ ?_
  have mem : ∀ (q : Fin 4) (off : Fin 4 → ℕ) (inb : ∀ a, off a + (![1, 1, 64, 256] : Fin 4 → ℕ) a ≤ S1x4x64x256.size a)
      (_ : off = ![0, q.val, 0, 0]), ix4 0 q d r ∈ (Rect.unit (s := S1x4x64x256) off ![1, 1, 64, 256] inb).set := by
    intro q off inb ho
    subst ho
    refine Rect.mem_set_unit.mpr fun a => ?_
    match a with
    | ⟨0, _⟩ => exact ⟨Nat.le_refl 0, Nat.zero_lt_one⟩
    | ⟨1, _⟩ => exact ⟨Nat.le_refl _, Nat.lt_succ_self _⟩
    | ⟨2, _⟩ => exact ⟨Nat.zero_le _, by show d.val < 0 + 64; omega⟩
    | ⟨3, _⟩ => exact ⟨Nat.zero_le _, by show r.val < 0 + 256; omega⟩
  match h with
  | 0 => exact ⟨_, List.mem_cons_of_mem _ (List.mem_cons_of_mem _ (List.mem_cons_of_mem _ List.mem_cons_self)), mem 0 ![0, 0, 0, 0] inb_S1x4x64x256_S1x1x64x256_0_0_0_0 rfl⟩
  | 1 => exact ⟨_, List.mem_cons_of_mem _ (List.mem_cons_of_mem _ List.mem_cons_self), mem 1 ![0, 1, 0, 0] inb_S1x4x64x256_S1x1x64x256_0_1_0_0 rfl⟩
  | 2 => exact ⟨_, List.mem_cons_of_mem _ List.mem_cons_self, mem 2 ![0, 2, 0, 0] inb_S1x4x64x256_S1x1x64x256_0_2_0_0 rfl⟩
  | 3 => exact ⟨_, List.mem_cons_self, mem 3 ![0, 3, 0, 0] inb_S1x4x64x256_S1x1x64x256_0_3_0_0 rfl⟩

variable (m : (ℓ : Loc nD τ sig) → Buf (Elt Ideal) ℓ) (c : Dev nD)

/-- The first attention's keys that a point writes. -/
theorem out13 (t : Fin cfg0.N) (h : Fin 4) (d : Fin 64) (r : Fin 256) :
    (dats m 0 c).flushed 13 t (ix4 0 h d r)
      = k0_pay10 k0_pay5 (k0_pay7 (X0_1 m c t)) (k0_pay8 (iblk m c 8 t)) (k0_pay9 (X0_1 m c t)) (ix2 (lane h d) r) := by
  by_cases h0 : t.val % 8 = 0
  · refine (congrFun (Value.flushed13_A m c t h0) (ix4 0 h d r)).trans ?_
    unfold out0_A_13
    frame_out
    exact four _ _ _ _ _ rfl rfl rfl rfl h d r
  · refine (congrFun (Value.flushed13_B m c t h0) (ix4 0 h d r)).trans ?_
    unfold out0_B_13
    frame_out
    exact four _ _ _ _ _ rfl rfl rfl rfl h d r

/-- The first attention's values that a point writes. -/
theorem out14 (t : Fin cfg0.N) (h : Fin 4) (d : Fin 64) (r : Fin 256) :
    (dats m 0 c).flushed 14 t (ix4 0 h d r) = k0_pay16 (X0_2 m c t) (ix2 (lane h d) r) := by
  by_cases h0 : t.val % 8 = 0
  · refine (congrFun (Value.flushed14_A m c t h0) (ix4 0 h d r)).trans ?_
    unfold out0_A_14
    frame_out
    exact four _ _ _ _ _ rfl rfl rfl rfl h d r
  · refine (congrFun (Value.flushed14_B m c t h0) (ix4 0 h d r)).trans ?_
    unfold out0_B_14
    frame_out
    exact four _ _ _ _ _ rfl rfl rfl rfl h d r

/-- The second attention's keys that a point writes. -/
theorem out16 (t : Fin cfg0.N) (h : Fin 4) (d : Fin 64) (r : Fin 256) :
    (dats m 0 c).flushed 16 t (ix4 0 h d r) = k0_pay24 k0_pay5 (k0_pay22 (X0_4 m c t)) (iblk m c 10 t) (ix2 (lane h d) r) := by
  by_cases h0 : t.val % 8 = 0
  · refine (congrFun (Value.flushed16_A m c t h0) (ix4 0 h d r)).trans ?_
    unfold out0_A_16
    frame_out
    exact four _ _ _ _ _ rfl rfl rfl rfl h d r
  · refine (congrFun (Value.flushed16_B m c t h0) (ix4 0 h d r)).trans ?_
    unfold out0_B_16
    frame_out
    exact four _ _ _ _ _ rfl rfl rfl rfl h d r

/-- The second attention's values that a point writes. -/
theorem out17 (t : Fin cfg0.N) (h : Fin 4) (d : Fin 64) (r : Fin 256) :
    (dats m 0 c).flushed 17 t (ix4 0 h d r) = k0_pay30 (X0_5 m c t) (ix2 (lane h d) r) := by
  by_cases h0 : t.val % 8 = 0
  · refine (congrFun (Value.flushed17_A m c t h0) (ix4 0 h d r)).trans ?_
    unfold out0_A_17
    frame_out
    exact four _ _ _ _ _ rfl rfl rfl rfl h d r
  · refine (congrFun (Value.flushed17_B m c t h0) (ix4 0 h d r)).trans ?_
    unfold out0_B_17
    frame_out
    exact four _ _ _ _ _ rfl rfl rfl rfl h d r

/-- The logs of the forget gates that a point writes. -/
theorem out18 (t : Fin cfg0.N) (h : Fin 4) (r : Fin 256) :
    (dats m 0 c).flushed 18 t (ix3 0 h r) = k0_pay39 (k0_pay37 (iblk m c 6 t) (iblk m c 11 t)) (ix3 0 h r) := by
  by_cases h0 : t.val % 8 = 0
  · refine (congrFun (Value.flushed18_A m c t h0) (ix3 0 h r)).trans ?_
    unfold out0_A_18
    frame_out
    rfl
  · refine (congrFun (Value.flushed18_B m c t h0) (ix3 0 h r)).trans ?_
    unfold out0_B_18
    frame_out
    rfl

/-! ## The blocks by the arguments' coordinates -/

/-- A token's row of the projection. -/
def x (b : Fin 8) (s : Fin 2048) (k : Fin 3456) : EReal := m (c.tc.loc main_arg0) (ix3 b s k)
/-- The gain of the first attention's keys. -/
def foxGain (d : Fin 64) : EReal := m (c.tc.loc main_arg2) (ix1 d)
/-- The gain of the second attention's keys. -/
def mobaGain (d : Fin 64) : EReal := m (c.tc.loc main_arg4) (ix1 d)
/-- The forget gates' bias. -/
def bias (h : Fin 4) : EReal := m (c.tc.loc main_arg5) (ix1 h)

/-- The windows of the projection and of the gates' lanes, at a point. -/
theorem rows : ∀ t : Fin cfg0.N, win0_1.index t = ![t.val / 8, t.val % 8, 4] ∧ win0_2.index t = ![t.val / 8, t.val % 8, 5]
    ∧ win0_4.index t = ![t.val / 8, t.val % 8, 11] ∧ win0_5.index t = ![t.val / 8, t.val % 8, 12]
    ∧ win0_6.index t = ![t.val / 8, t.val % 8, 26] := by decide +kernel
/-- The gains' and the bias's windows are one block. -/
theorem whole : ∀ t : Fin cfg0.N, win0_8.index t = ![0, 0] ∧ win0_10.index t = ![0, 0] ∧ win0_11.index t = ![0, 0] := by
  decide +kernel
/-- The results' windows, at a point. -/
theorem outs : ∀ t : Fin cfg0.N, win0_13.index t = ![t.val / 8, 0, 0, t.val % 8] ∧ win0_14.index t = ![t.val / 8, 0, 0, t.val % 8]
    ∧ win0_16.index t = ![t.val / 8, 0, 0, t.val % 8] ∧ win0_17.index t = ![t.val / 8, 0, 0, t.val % 8]
    ∧ win0_18.index t = ![t.val / 8, 0, t.val % 8] := by decide +kernel

/-- The first attention's keys at a point. -/
theorem blk1 (t : Fin cfg0.N) (r k : Fin 256) (b : Fin 8) (s : Fin 2048) (hb : t.val / 8 = b.val)
    (hs : 256 * (t.val % 8) + r.val = s.val) : X0_1 m c t (ix3 0 r k) = x m c b s ⟨1024 + k.val, by omega⟩ := by
  unfold X0_1 Pipeline.Window.fill x
  rw [dif_pos (moved0_1 t _)]
  blk_ext! [iblk, V, (rows t).1]

/-- The first attention's values at a point. -/
theorem blk2 (t : Fin cfg0.N) (r k : Fin 256) (b : Fin 8) (s : Fin 2048) (hb : t.val / 8 = b.val)
    (hs : 256 * (t.val % 8) + r.val = s.val) : X0_2 m c t (ix3 0 r k) = x m c b s ⟨1280 + k.val, by omega⟩ := by
  unfold X0_2 Pipeline.Window.fill x
  rw [dif_pos (moved0_2 t _)]
  blk_ext! [iblk, V, (rows t).2.1]

/-- The second attention's keys at a point. -/
theorem blk4 (t : Fin cfg0.N) (r k : Fin 256) (b : Fin 8) (s : Fin 2048) (hb : t.val / 8 = b.val)
    (hs : 256 * (t.val % 8) + r.val = s.val) : X0_4 m c t (ix3 0 r k) = x m c b s ⟨2816 + k.val, by omega⟩ := by
  unfold X0_4 Pipeline.Window.fill x
  rw [dif_pos (moved0_4 t _)]
  blk_ext! [iblk, V, (rows t).2.2.1]

/-- The second attention's values at a point. -/
theorem blk5 (t : Fin cfg0.N) (r k : Fin 256) (b : Fin 8) (s : Fin 2048) (hb : t.val / 8 = b.val)
    (hs : 256 * (t.val % 8) + r.val = s.val) : X0_5 m c t (ix3 0 r k) = x m c b s ⟨3072 + k.val, by omega⟩ := by
  unfold X0_5 Pipeline.Window.fill x
  rw [dif_pos (moved0_5 t _)]
  blk_ext! [iblk, V, (rows t).2.2.2.1]

/-- The gates' lanes at a point. -/
theorem blk6 (t : Fin cfg0.N) (r : Fin 256) (k : Fin 128) (b : Fin 8) (s : Fin 2048) (hb : t.val / 8 = b.val)
    (hs : 256 * (t.val % 8) + r.val = s.val) : iblk m c 6 t (ix3 0 r k) = x m c b s ⟨3328 + k.val, by omega⟩ := by
  unfold x
  blk_ext! [iblk, V, (rows t).2.2.2.2]

/-- A gain tiled over the heads, at a lane. -/
theorem tiled (g : Vec Ideal S64 .f32) (h : Fin 4) (d : Fin 64) :
    shapeCast S1x256 (shapeCast S256 (broadcastInDim S4x64 ![0, 1] bcast_S1x64_S4x64_0_1
      (shapeCast S1x64 g shapeCasts_S64_S1x64)) shapeCasts_S4x64_S256) shapeCasts_S256_S1x256 (ix2 0 (lane h d)) = g (ix1 d) := by
  pointwise
  exact congrArg (fun e => g (ix1 e)) (Fin.ext (by show (h.val * 64 + d.val) % 64 = d.val; omega))

/-- The first gain at a point. -/
theorem blk8 (t : Fin cfg0.N) (h : Fin 4) (d : Fin 64) : iblk m c 8 t (ix2 0 (lane h d)) = foxGain m c d := by
  refine Eq.trans ?_ (tiled (m (c.tc.loc main_arg2)) h d)
  show _ = V m c main_v7 _
  blk_ext [iblk, (whole t).1]

/-- The second gain at a point. -/
theorem blk10 (t : Fin cfg0.N) (h : Fin 4) (d : Fin 64) : iblk m c 10 t (ix2 0 (lane h d)) = mobaGain m c d := by
  refine Eq.trans ?_ (tiled (m (c.tc.loc main_arg4)) h d)
  show _ = V m c main_v15 _
  blk_ext [iblk, (whole t).2.1]

/-- The position at which the host writes the bias: row 0 and lane 4. -/
abbrev start : IVec S2 32 :=
  concatenate S2 0 [⟨S1, broadcastInDim S1 ![] bcast_S_S1 (constantI S_ 32 0#32)⟩,
    ⟨S1, broadcastInDim S1 ![] bcast_S_S1 (constantI S_ 32 4#32)⟩] concatenates_S1_S1_S2_d0

/-- Entry `h` of the bias lands at lane `4 + h`. -/
theorem lands : ∀ h : Fin 4, scatter_S1x128_S2_S4_0_0_01_0.resultIdx? (ix1 h) start = some (ix2 0 (⟨4 + h.val, by omega⟩ : Fin 128)) := by
  decide +kernel

/-- The bias as the launch finds it, at lane `4 + h`. -/
theorem placed (f : Vec Ideal S4 .f32) (z : Vec Ideal S1x128 .f32) (h : Fin 4) :
    Host.scatter scatter_S1x128_S2_S4_0_0_01_0 (fun _ b => b) z start f (ix2 0 ⟨4 + h.val, by omega⟩) = f (ix1 h) := by
  refine Routing.scatter_set_hit _ _ _ _ _ _ (fun k hk => ?_) (ix1 h) (lands h)
  obtain ⟨k', rfl⟩ : ∃ k' : Fin 4, k = ix1 k' := ⟨k 0, funext fun a => match a with | ⟨0, _⟩ => rfl⟩
  rw [lands k'] at hk
  have := congrArg Fin.val (congrFun (Option.some.inj hk) 1)
  exact congrArg (fun e => f (ix1 e)) (Fin.ext (by have : 4 + k'.val = 4 + h.val := this; omega))

/-- The bias at a point. -/
theorem blk11 (t : Fin cfg0.N) (h : Fin 4) : iblk m c 11 t (ix2 0 (⟨4 + h.val, by omega⟩ : Fin 128)) = bias m c h := by
  refine Eq.trans ?_ (placed (m (c.tc.loc main_arg5)) (V m c main_v16) h)
  show _ = V m c main_v20 _
  blk_ext [iblk, (whole t).2.2]

/-! ## The results -/

/-- Every point writes its blocks back. -/
theorem flushes : ∀ t : Fin cfg0.N, (cfg0.win 13).flush t = true ∧ (cfg0.win 14).flush t = true ∧ (cfg0.win 16).flush t = true
    ∧ (cfg0.win 17).flush t = true ∧ (cfg0.win 18).flush t = true := by decide +kernel

/-- The point of a token: its index, and the token's place in its block. -/
theorem point (b : Fin 8) (s : Fin 2048) : ∃ (t : Fin cfg0.N) (r : Fin 256), t.val / 8 = b.val ∧ 256 * (t.val % 8) + r.val = s.val := by
  have hN : cfg0.N = 64 := N_0
  refine ⟨⟨8 * b.val + s.val / 256, by omega⟩, ⟨s.val % 256, by omega⟩, ?_, ?_⟩
  · show (8 * b.val + s.val / 256) / 8 = b.val; omega
  · show 256 * ((8 * b.val + s.val / 256) % 8) + s.val % 256 = s.val; omega

/-- The entries that the results read are finite: the keys' and the values' columns of the projection, and the gains. -/
structure FiniteAt : Prop where
  fox : ∀ (b : Fin 8) (s : Fin 2048) (k : Fin 3456), 1024 ≤ k.val → k.val < 1536 → IsReal (x m c b s k)
  moba : ∀ (b : Fin 8) (s : Fin 2048) (k : Fin 3456), 2816 ≤ k.val → k.val < 3328 → IsReal (x m c b s k)
  foxGain : ∀ d : Fin 64, IsReal (foxGain m c d)
  mobaGain : ∀ d : Fin 64, IsReal (mobaGain m c d)

/-- Where a block of the per-head results lies in its array. -/
theorem place {j : Fin 4 → ℕ} {t : ℕ} (hj : j = ![t / 8, 0, 0, t % 8]) (e : S8x4x64x2048.Idx) (h : Fin 4) (d : Fin 64) (r : Fin 256)
    (he : ∀ a, (e a).val = j a * (![1, 4, 64, 256] : Fin 4 → ℕ) a + 1 * ((ix4 0 h d r : S1x4x64x256.Idx) a).val)
    (b : Fin 8) (s : Fin 2048) (hb : t / 8 = b.val) (hs : 256 * (t % 8) + r.val = s.val) : e = ix4 b h d s := by
  subst hj
  funext a
  apply Fin.ext
  rw [he a]
  match a with
  | ⟨0, _⟩ => show t / 8 * 1 + 1 * 0 = b.val; omega
  | ⟨1, _⟩ => show 0 * 4 + 1 * h.val = h.val; omega
  | ⟨2, _⟩ => show 0 * 64 + 1 * d.val = d.val; omega
  | ⟨3, _⟩ => show t % 8 * 256 + 1 * r.val = s.val; omega

/-- The first attention's keys: head `h`, lane `d`, token `s`. -/
theorem foxKey (hf : FiniteAt m c) (b : Fin 8) (h : Fin 4) (d : Fin 64) (s : Fin 2048) :
    (dats m 0 c).arrAt 13 cfg0.N (ix4 b h d s)
      = norm (fun e => x m c b s ⟨1024 + (lane h e).val, by omega⟩) (foxGain m c d) d := by
  obtain ⟨t, r, hb, hs⟩ := point b s
  have e := congrFun (Value.blocks13 m c t (flushes t).1) (ix4 0 h d r)
  have hi : ((cfg0.win 13).blk t).view.emb (ix4 0 h d r) = ix4 b h d s := place (outs t).1 _ h d r (fun _ => rfl) b s hb hs
  rw [← hi]
  refine e.trans ((out13 m c t h d r).trans ?_)
  refine (Pay.foxKey _ _ r h d (fun k => ?_) fun k => ?_).trans ?_
  · rw [blk1 m c t r k b s hb hs]; exact hf.fox b s _ (Nat.le_add_right _ _) (by show 1024 + k.val < 1536; omega)
  · obtain ⟨h', d', rfl⟩ := exists_lane k
    rw [blk8]; exact hf.foxGain d'
  · rw [blk8]
    exact congrArg (fun f => norm f _ d) (funext fun k => blk1 m c t r _ b s hb hs)

/-- The first attention's values: head `h`, lane `d`, token `s`. -/
theorem foxVal (hf : FiniteAt m c) (b : Fin 8) (h : Fin 4) (d : Fin 64) (s : Fin 2048) :
    (dats m 0 c).arrAt 14 cfg0.N (ix4 b h d s) = x m c b s ⟨1280 + (lane h d).val, by omega⟩ := by
  obtain ⟨t, r, hb, hs⟩ := point b s
  have e := congrFun (Value.blocks14 m c t (flushes t).2.1) (ix4 0 h d r)
  have hi : ((cfg0.win 14).blk t).view.emb (ix4 0 h d r) = ix4 b h d s := place (outs t).2.1 _ h d r (fun _ => rfl) b s hb hs
  rw [← hi]
  refine e.trans ((out14 m c t h d r).trans ?_)
  refine (Pay.foxVal _ r (lane h d) ?_).trans (blk2 m c t r _ b s hb hs)
  rw [blk2 m c t r _ b s hb hs]
  exact hf.fox b s _ (by show 1024 ≤ 1280 + _; omega) (by show 1280 + (lane h d).val < 1536; omega)

/-- The second attention's keys: head `h`, lane `d`, token `s`. -/
theorem mobaKey (hf : FiniteAt m c) (b : Fin 8) (h : Fin 4) (d : Fin 64) (s : Fin 2048) :
    (dats m 0 c).arrAt 16 cfg0.N (ix4 b h d s)
      = norm (fun e => x m c b s ⟨2816 + (lane h e).val, by omega⟩) (mobaGain m c d) d := by
  obtain ⟨t, r, hb, hs⟩ := point b s
  have e := congrFun (Value.blocks16 m c t (flushes t).2.2.1) (ix4 0 h d r)
  have hi : ((cfg0.win 16).blk t).view.emb (ix4 0 h d r) = ix4 b h d s := place (outs t).2.2.1 _ h d r (fun _ => rfl) b s hb hs
  rw [← hi]
  refine e.trans ((out16 m c t h d r).trans ?_)
  refine (Pay.mobaKey _ _ r h d (fun k => ?_) fun k => ?_).trans ?_
  · rw [blk4 m c t r k b s hb hs]; exact hf.moba b s _ (Nat.le_add_right _ _) (by show 2816 + k.val < 3328; omega)
  · obtain ⟨h', d', rfl⟩ := exists_lane k
    rw [blk10]; exact hf.mobaGain d'
  · rw [blk10]
    exact congrArg (fun f => norm f _ d) (funext fun k => blk4 m c t r _ b s hb hs)

/-- The second attention's values: head `h`, lane `d`, token `s`. -/
theorem mobaVal (hf : FiniteAt m c) (b : Fin 8) (h : Fin 4) (d : Fin 64) (s : Fin 2048) :
    (dats m 0 c).arrAt 17 cfg0.N (ix4 b h d s) = x m c b s ⟨3072 + (lane h d).val, by omega⟩ := by
  obtain ⟨t, r, hb, hs⟩ := point b s
  have e := congrFun (Value.blocks17 m c t (flushes t).2.2.2.1) (ix4 0 h d r)
  have hi : ((cfg0.win 17).blk t).view.emb (ix4 0 h d r) = ix4 b h d s := place (outs t).2.2.2.1 _ h d r (fun _ => rfl) b s hb hs
  rw [← hi]
  refine e.trans ((out17 m c t h d r).trans ?_)
  refine (Pay.mobaVal _ r (lane h d) ?_).trans (blk5 m c t r _ b s hb hs)
  rw [blk5 m c t r _ b s hb hs]
  exact hf.moba b s _ (by show 2816 ≤ 3072 + _; omega) (by show 3072 + (lane h d).val < 3328; omega)

/-- The logs of the forget gates: head `h`, token `s`. -/
theorem foxGate (b : Fin 8) (h : Fin 4) (s : Fin 2048) :
    (dats m 0 c).arrAt 18 cfg0.N (ix3 b h s)
      = logSigmoid (x m c b s ⟨3332 + h.val, by omega⟩ + bias m c h) := by
  obtain ⟨t, r, hb, hs⟩ := point b s
  have e := congrFun (Value.blocks18 m c t (flushes t).2.2.2.2) (ix3 0 h r)
  have hi : ((cfg0.win 18).blk t).view.emb (ix3 0 h r) = ix3 b h s := by
    funext a
    apply Fin.ext
    match a with
    | ⟨0, _⟩ =>
      show win0_18.index t (0 : Fin 3) * 1 + 1 * 0 = b.val
      rw [(outs t).2.2.2.2]; show t.val / 8 * 1 + 1 * 0 = b.val; omega
    | ⟨1, _⟩ =>
      show win0_18.index t (1 : Fin 3) * 4 + 1 * h.val = h.val
      rw [(outs t).2.2.2.2]; show 0 * 4 + 1 * h.val = h.val; omega
    | ⟨2, _⟩ =>
      show win0_18.index t (2 : Fin 3) * 256 + 1 * r.val = s.val
      rw [(outs t).2.2.2.2]; show t.val % 8 * 256 + 1 * r.val = s.val; omega
  rw [← hi]
  refine e.trans ((out18 m c t h r).trans ?_)
  have hx : iblk m c 6 t (ix3 0 r (⟨4 + h.val, by omega⟩ : Fin 128)) = x m c b s ⟨3332 + h.val, by omega⟩ :=
    (blk6 m c t r _ b s hb hs).trans (congrArg (x m c b s) (Fin.ext (by show 3328 + (4 + h.val) = 3332 + h.val; omega)))
  refine (Pay.foxGate _ _ r h ⟨4 + h.val, by omega⟩ rfl).trans ?_
  rw [hx, blk11]

end Cert.Prep.KernelValue
-- ==== Proof.Prep.Reference.lean ====
module

public import proofs.«01_k».proof.Proof.Gen.ReferencePrepIdeal.Read
public import proofs.«01_k».proof.Proof.Heads.Spec
public import Idealize.ShloMosaic.Lib.Pointwise

/-! The reference of the preparation of keys, values and forget gates, at an index, in terms of its arguments. -/

@[expose] public section

set_option maxRecDepth 16384

noncomputable section

namespace Cert.Prep.Reference

open Idealize.ShloMosaic Idealize.ShloMosaic.TcCoe
open Cert.ReferencePrepIdeal Cert.ReferencePrepIdeal.Gen Cert.ReferencePrepIdeal.Read Cert.Heads

/-- The first attention's keys, normed. -/
theorem foxKey (x0 : Vec Ideal S8x2048x3456 .f32) (g : Vec Ideal S64 .f32) (b : Fin 8) (h : Fin 4) (d : Fin 64) (s : Fin 2048) :
    val_main_v39 (F := Ideal) x0 g (ix4 b h d s)
      = norm (fun e => x0 (ix3 b s ⟨1024 + (lane h e).val, by omega⟩)) (g (ix1 d)) d := by
  pointwise [val_main_v39, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  rfl

/-- The first attention's values. -/
theorem foxVal (x0 : Vec Ideal S8x2048x3456 .f32) (b : Fin 8) (h : Fin 4) (d : Fin 64) (s : Fin 2048) :
    val_main_v40 (F := Ideal) x0 (ix4 b h d s) = x0 (ix3 b s ⟨1280 + (lane h d).val, by omega⟩) := by
  pointwise [val_main_v40, val_main_v16, val_main_v15]
  rfl

/-- The log of the forget gates. -/
theorem foxGate (x0 : Vec Ideal S8x2048x3456 .f32) (f : Vec Ideal S4 .f32) (b : Fin 8) (h : Fin 4) (s : Fin 2048) :
    val_main_v41 (F := Ideal) x0 f (ix3 b h s) = logSigmoid (x0 (ix3 b s ⟨3332 + h.val, by omega⟩) + f (ix1 h)) := by
  pointwise [val_main_v41, val_main_v38, val_main_v37, val_main_v36, val_main_v35, val_main_v34, val_main_call0_v0,
    val_main_call0_v1, val_main_call0_call0_v0, val_main_call0_call0_v1, val_main_call0_call0_v2, val_main_call0_call0_v3,
    val_main_call0_call0_v4, val_main_call0_call0_v5, val_main_call0_call0_v6, val_main_call0_call0_v7,
    val_main_call0_call0_v8, val_main_call0_call0_v9, val_main_call0_call0_v10, val_main_call0_call0_v11,
    val_main_call0_call0_cst]
  rw [if_neg (fun h => h rfl)]
  rfl

/-- The second attention's keys, normed. -/
theorem mobaKey (x0 : Vec Ideal S8x2048x3456 .f32) (g : Vec Ideal S64 .f32) (b : Fin 8) (h : Fin 4) (d : Fin 64) (s : Fin 2048) :
    val_main_v42 (F := Ideal) x0 g (ix4 b h d s)
      = norm (fun e => x0 (ix3 b s ⟨2816 + (lane h e).val, by omega⟩)) (g (ix1 d)) d := by
  pointwise [val_main_v42, val_main_v31, val_main_v30, val_main_v29, val_main_v28, val_main_v27, val_main_v26, val_main_v25,
    val_main_v24, val_main_v23, val_main_v22, val_main_v21, val_main_v20, val_main_v19, val_main_v18, val_main_v17,
    val_main_cst_2, val_main_cst_3, val_main_cst_4]
  rfl

/-- The second attention's values. -/
theorem mobaVal (x0 : Vec Ideal S8x2048x3456 .f32) (b : Fin 8) (h : Fin 4) (d : Fin 64) (s : Fin 2048) :
    val_main_v43 (F := Ideal) x0 (ix4 b h d s) = x0 (ix3 b s ⟨3072 + (lane h d).val, by omega⟩) := by
  pointwise [val_main_v43, val_main_v33, val_main_v32]
  rfl

end Cert.Prep.Reference
-- ==== Proof.Prep.Equal.lean ====
module

public import proofs.«01_k».proof.Defs
public import proofs.«01_k».proof.Proof.Gen.KernelPrepIdeal.Value
public import proofs.«01_k».proof.Proof.Gen.ReferencePrepIdeal
public import proofs.«01_k».proof.Proof.Gen.ReferencePrepIdeal.Run
public import proofs.«01_k».proof.Proof.Gen.ReferencePrepIdeal.Read
public import proofs.«01_k».proof.Proof.Prep.KernelValue
public import proofs.«01_k».proof.Proof.Prep.Pre
public import proofs.«01_k».proof.Proof.Prep.Reference
public import Idealize.ShloMosaic.Adequacy
public import Idealize.ShloMosaic.Init

/-! The preparation: the claims about its reference and its values. -/

@[expose] public section

noncomputable section

namespace Cert.Prep

open Idealize.ShloMosaic Idealize.ShloMosaic.TcCoe Idealize.SL.Sem

/-- The reference runs, its arguments end unchanged, and it declares no semaphore. -/
theorem frame_reference : Cert.quiescent_ReferencePrepIdeal :=
  fun m ρ _ => (θ_run Cert.ReferencePrepIdeal.defs _ _).mono
    (fun r h => ⟨fun c => (h c).2.2.2.2.2, sem_eq_zero_of_no_sems (by decide) r.2⟩)
    (Cert.ReferencePrepIdeal.Value.run (F := Ideal) m ρ)

/-- The precondition gives the finite entries that the results read. -/
theorem real (m : (ℓ : Loc Cert.KernelPrepIdeal.nD Cert.KernelPrepIdeal.τ Cert.KernelPrepIdeal.sig) → Buf (Elt Ideal) ℓ)
    (hpre : Cert.Pre_KernelPrepIdeal_finite_prep m) (c : Dev Cert.KernelPrepIdeal.nD) : KernelValue.FiniteAt m c := by
  obtain ⟨hx, hy, hg, hm⟩ := Pre.finite _ _ _ _ _ _ (hpre c)
  exact ⟨hx, hy, fun d => hg _, fun d => hm _⟩

/-- The coordinates of an index of the per-head results. -/
theorem exists_ix4 (i : Cert.KernelPrepIdeal.S8x4x64x2048.Idx) :
    ∃ (b : Fin 8) (h : Fin 4) (d : Fin 64) (s : Fin 2048), i = ix4 b h d s :=
  ⟨i 0, i 1, i 2, i 3, funext fun a => match a with | ⟨0, _⟩ => rfl | ⟨1, _⟩ => rfl | ⟨2, _⟩ => rfl | ⟨3, _⟩ => rfl⟩

/-- The coordinates of an index of the gates. -/
theorem exists_ix3 (i : Cert.KernelPrepIdeal.S8x4x2048.Idx) : ∃ (b : Fin 8) (h : Fin 4) (s : Fin 2048), i = ix3 b h s :=
  ⟨i 0, i 1, i 2, funext fun a => match a with | ⟨0, _⟩ => rfl | ⟨1, _⟩ => rfl | ⟨2, _⟩ => rfl⟩

/-- The kernel's five results and the reference's are equal over the extended reals. -/
theorem algebraic : Cert.algebraic_KernelPrepIdeal_ReferencePrepIdeal_pre_finite_prep := by
  intro m ρ m' ρ' hpre hagree
  have real := real m hpre
  refine ⟨fun c => (Cert.KernelPrepIdeal.Gen.dats m 0 c).arrAt 13 Cert.KernelPrepIdeal.cfg0.N,
    fun c => (Cert.KernelPrepIdeal.Gen.dats m 0 c).arrAt 14 Cert.KernelPrepIdeal.cfg0.N,
    fun c => (Cert.KernelPrepIdeal.Gen.dats m 0 c).arrAt 18 Cert.KernelPrepIdeal.cfg0.N,
    fun c => (Cert.KernelPrepIdeal.Gen.dats m 0 c).arrAt 16 Cert.KernelPrepIdeal.cfg0.N,
    fun c => (Cert.KernelPrepIdeal.Gen.dats m 0 c).arrAt 17 Cert.KernelPrepIdeal.cfg0.N,
    (θ_run Cert.KernelPrepIdeal.defs _ _).mono (fun r h c => ?_) (Cert.KernelPrepIdeal.Value.run_blocks (F := Ideal) m ρ),
    (θ_run Cert.ReferencePrepIdeal.defs _ _).mono (fun r h c => ⟨?_, ?_, ?_, ?_, ?_, (h c).2.2.2.2.2⟩)
      (Cert.ReferencePrepIdeal.Value.run (F := Ideal) m' ρ')⟩
  · obtain ⟨-, h1, h2, -, h4, h5, h6, -, -, -, ha⟩ := h c
    exact ⟨h1, h2, h6, h4, h5, ha⟩
  all_goals obtain ⟨a0, a1, a2, a3, a4, a5⟩ := hagree c
  · refine (h c).1.trans ?_
    refine (Cert.ReferencePrepIdeal.Read.val_main_v39_eq (F := Ideal) _ _).trans ?_
    show Cert.ReferencePrepIdeal.Read.val_main_v39 (F := Ideal)
      (m' ((c.tc : Thread Cert.ReferencePrepIdeal.nD Cert.ReferencePrepIdeal.τ).loc Cert.ReferencePrepIdeal.main_arg0))
      (m' ((c.tc : Thread Cert.ReferencePrepIdeal.nD Cert.ReferencePrepIdeal.τ).loc Cert.ReferencePrepIdeal.main_arg2)) = _
    rw [a0, a2]
    funext i
    obtain ⟨b, h, d, s, rfl⟩ := exists_ix4 i
    exact (Cert.Prep.Reference.foxKey _ _ b h d s).trans (KernelValue.foxKey m c (real c) b h d s).symm
  · refine (h c).2.1.trans ?_
    refine (Cert.ReferencePrepIdeal.Read.val_main_v40_eq (F := Ideal) _).trans ?_
    show Cert.ReferencePrepIdeal.Read.val_main_v40 (F := Ideal)
      (m' ((c.tc : Thread Cert.ReferencePrepIdeal.nD Cert.ReferencePrepIdeal.τ).loc Cert.ReferencePrepIdeal.main_arg0)) = _
    rw [a0]
    funext i
    obtain ⟨b, h, d, s, rfl⟩ := exists_ix4 i
    exact (Cert.Prep.Reference.foxVal _ b h d s).trans (KernelValue.foxVal m c (real c) b h d s).symm
  · refine (h c).2.2.1.trans ?_
    refine (Cert.ReferencePrepIdeal.Read.val_main_v41_eq (F := Ideal) _ _).trans ?_
    show Cert.ReferencePrepIdeal.Read.val_main_v41 (F := Ideal)
      (m' ((c.tc : Thread Cert.ReferencePrepIdeal.nD Cert.ReferencePrepIdeal.τ).loc Cert.ReferencePrepIdeal.main_arg0))
      (m' ((c.tc : Thread Cert.ReferencePrepIdeal.nD Cert.ReferencePrepIdeal.τ).loc Cert.ReferencePrepIdeal.main_arg5)) = _
    rw [a0, a5]
    funext i
    obtain ⟨b, h, s, rfl⟩ := exists_ix3 i
    exact (Cert.Prep.Reference.foxGate _ _ b h s).trans (KernelValue.foxGate m c b h s).symm
  · refine (h c).2.2.2.1.trans ?_
    refine (Cert.ReferencePrepIdeal.Read.val_main_v42_eq (F := Ideal) _ _).trans ?_
    show Cert.ReferencePrepIdeal.Read.val_main_v42 (F := Ideal)
      (m' ((c.tc : Thread Cert.ReferencePrepIdeal.nD Cert.ReferencePrepIdeal.τ).loc Cert.ReferencePrepIdeal.main_arg0))
      (m' ((c.tc : Thread Cert.ReferencePrepIdeal.nD Cert.ReferencePrepIdeal.τ).loc Cert.ReferencePrepIdeal.main_arg4)) = _
    rw [a0, a4]
    funext i
    obtain ⟨b, h, d, s, rfl⟩ := exists_ix4 i
    exact (Cert.Prep.Reference.mobaKey _ _ b h d s).trans (KernelValue.mobaKey m c (real c) b h d s).symm
  · refine (h c).2.2.2.2.1.trans ?_
    refine (Cert.ReferencePrepIdeal.Read.val_main_v43_eq (F := Ideal) _).trans ?_
    show Cert.ReferencePrepIdeal.Read.val_main_v43 (F := Ideal)
      (m' ((c.tc : Thread Cert.ReferencePrepIdeal.nD Cert.ReferencePrepIdeal.τ).loc Cert.ReferencePrepIdeal.main_arg0)) = _
    rw [a0]
    funext i
    obtain ⟨b, h, d, s, rfl⟩ := exists_ix4 i
    exact (Cert.Prep.Reference.mobaVal _ b h d s).trans (KernelValue.mobaVal m c (real c) b h d s).symm

end Cert.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Moe.KernelValue
public import proofs.«01_k».proof.Proof.Moe.Reference
public import proofs.«01_k».proof.Proof.Moe.Pre
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelPrep
public import proofs.«01_k».proof.Proof.Gen.KernelPrep.Skeleton
public import proofs.«01_k».proof.Proof.Gen.KernelPrep.Launch
public import proofs.«01_k».proof.Proof.Gen.KernelPrep.Points
public import proofs.«01_k».proof.Proof.Gen.KernelPrep.Frame
public import proofs.«01_k».proof.Proof.Gen.KernelPrepIdeal
public import proofs.«01_k».proof.Proof.Gen.KernelPrepIdeal.Skeleton
public import proofs.«01_k».proof.Proof.Gen.KernelPrepIdeal.Launch
public import proofs.«01_k».proof.Proof.Gen.KernelPrepIdeal.Points
public import proofs.«01_k».proof.Proof.Gen.KernelPrepIdeal.Frame
public import proofs.«01_k».proof.Proof.Gen.KernelPrepIdeal.Value
public import proofs.«01_k».proof.Proof.Gen.ReferencePrepIdeal
public import proofs.«01_k».proof.Proof.Gen.ReferencePrepIdeal.Run
public import proofs.«01_k».proof.Proof.Gen.ReferencePrepIdeal.Read
public import proofs.«01_k».proof.Proof.Ffn.Equal
public import proofs.«01_k».proof.Proof.In.Equal
public import proofs.«01_k».proof.Proof.Out.Equal
public import proofs.«01_k».proof.Proof.Prep.Pre
public import proofs.«01_k».proof.Proof.Prep.Equal
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged, and it declares no semaphore. -/
theorem frame_reference : Cert.quiescent_ReferenceIdeal :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The idealization: only the mask is replaced, by the least extended real. -/
theorem preserves : Cert.preserves_Kernel_KernelIdeal :=
  IdealRules.named_const.statement Cert.KernelIdeal.κ "mask" .f32 0xF149F2CA#32 ⊥ rfl

/-- The kernel's result and the reference's are equal over the extended reals, at finite arguments. -/
theorem algebraic : Cert.algebraic_KernelIdeal_ReferenceIdeal_pre_finite := by
  intro m ρ m' ρ' hpre hagree
  refine ⟨fun c => Cert.KernelIdeal.Value.G9 m c, Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6⟩ := hagree c
  obtain ⟨hx, hm, hn, hr⟩ := Cert.Moe.Pre.finite _ _ _ _ _ _ _ (hpre c)
  refine (Cert.ReferenceIdeal.Read.val_main_v172_eq (F := Ideal) (StableHlo.launchContents m' c)).trans ?_
  show Cert.ReferenceIdeal.Read.val_main_v172 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) = _
  rw [a0, a1, a2, a3, a4, a5, a6]
  funext i
  obtain ⟨R, d, rfl⟩ : ∃ (R : Fin 16384) (d : Fin 1024), i = ix2 R d :=
    ⟨i 0, i 1, funext fun a => match a with | ⟨0, _⟩ => rfl | ⟨1, _⟩ => rfl⟩
  have hR : R.val = 2048 * (⟨R.val / 2048, by omega⟩ : Fin 8).val + (⟨R.val % 2048, Nat.mod_lt _ (by decide)⟩ : Fin 2048).val := by
    show R.val = 2048 * (R.val / 2048) + R.val % 2048; omega
  revert hR
  generalize (⟨R.val / 2048, by omega⟩ : Fin 8) = b
  generalize (⟨R.val % 2048, Nat.mod_lt _ (by decide)⟩ : Fin 2048) = s
  intro hR
  have hh : ∀ k, Cert.Moe.Spec.IsReal (Cert.Moe.KernelValue.hd m c b s k) :=
    Cert.Moe.Spec.hidden_real _ _ _ _ (fun k => hx _) (fun k => hm b _ (by show 3072 ≤ 4096 + k.val; omega) (by show 4096 + k.val < 5120; omega))
      (fun k => hm b _ (by show 3072 ≤ 3072 + k.val; omega) (by show 3072 + k.val < 5120; omega)) (fun k => hn _)
  have hrt : ∀ k e, Cert.Moe.Spec.IsReal (Cert.Moe.KernelValue.rt m c k e) := fun k e => hr _
  obtain ⟨p, q, hpq⟩ := Cert.Moe.Routing.exists_top2 (Cert.Moe.KernelValue.lg m c b s)
  have hid : ∀ k, Cert.ReferenceIdeal.Read.val_main_v30 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (ix3 b s k)
        = Cert.Moe.KernelValue.hd m c b s k := fun k => Cert.Moe.Reference.hidden_apply _ _ _ b s k
  have hlg : Cert.Moe.Reference.lg
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) b s
        = Cert.Moe.KernelValue.lg m c b s := funext fun e => by
    unfold Cert.Moe.Reference.lg
    rw [Cert.Moe.Reference.logits_apply, funext hid]
    rfl
  have hz : ∀ j, Cert.Moe.Spec.IsReal (Cert.Moe.KernelValue.lg m c b s j) := Cert.Moe.Spec.logits_real _ _ hh hrt
  rw [← hlg] at hz hpq
  refine (Cert.Moe.Reference.value _ _ _ _ _ _ _ b s R d hR hz p q hpq).trans ?_
  rw [hlg] at hpq
  refine Eq.trans ?_ (Cert.Moe.KernelValue.value m c b s R d hR hh hrt p q hpq).symm
  rw [hlg, funext hid]
  rfl

/-- `Cert.Claim`: the frames, the idealizations, and the values. -/
theorem claim : Cert.Claim :=
  ⟨Cert.Kernel.Gen.facts, Cert.KernelIdeal.Gen.facts, Cert.ReferenceIdeal.Gen.facts,
    Cert.KernelFfn.Gen.facts, Cert.KernelFfnIdeal.Gen.facts, Cert.ReferenceFfnIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelPrep.Gen.facts, Cert.KernelPrepIdeal.Gen.facts, Cert.ReferencePrepIdeal.Gen.facts, Cert.Moe.Pre.facts, Cert.Prep.Pre.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.KernelFfn.Gen.frame m ρ, fun m ρ _ => Cert.KernelFfnIdeal.Gen.frame m ρ, Cert.Ffn.frame_reference,
    fun m ρ _ => Cert.KernelIn.Gen.frame m ρ, fun m ρ _ => Cert.KernelInIdeal.Gen.frame m ρ, Cert.In.frame_reference,
    fun m ρ _ => Cert.KernelOut.Gen.frame m ρ, fun m ρ _ => Cert.KernelOutIdeal.Gen.frame m ρ, Cert.Out.frame_reference,
    fun m ρ _ => Cert.KernelPrep.Gen.frame m ρ, fun m ρ _ => Cert.KernelPrepIdeal.Gen.frame m ρ,
    fun m ρ _ => Cert.KernelPrepIdeal.Gen.frame m ρ, Cert.Prep.frame_reference, fun m ρ _ => Cert.Prep.frame_reference m ρ trivial,
    preserves, algebraic, trivial, Cert.Ffn.algebraic, trivial, Cert.In.algebraic, trivial, Cert.Out.algebraic,
    trivial, Cert.Prep.algebraic⟩

end Cert.Proof

end
